-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x384x2176 : Shape := ⟨3, ![1, 384, 2176]⟩
abbrev S2176x10560 : Shape := ⟨2, ![2176, 10560]⟩
abbrev S34x21120 : Shape := ⟨2, ![34, 21120]⟩
abbrev S2176x16 : Shape := ⟨2, ![2176, 16]⟩
abbrev S16x21120 : Shape := ⟨2, ![16, 21120]⟩
abbrev S16 : Shape := ⟨1, ![16]⟩
abbrev S16x128 : Shape := ⟨2, ![16, 128]⟩
abbrev S384x2176 : Shape := ⟨2, ![384, 2176]⟩
abbrev S384x21120 : Shape := ⟨2, ![384, 21120]⟩
abbrev S2176x256 : Shape := ⟨2, ![2176, 256]⟩
abbrev S34x512 : Shape := ⟨2, ![34, 512]⟩
abbrev S16x512 : Shape := ⟨2, ![16, 512]⟩
abbrev S384x512 : Shape := ⟨2, ![384, 512]⟩
abbrev S2304x512 : Shape := ⟨2, ![2304, 512]⟩
abbrev S384x2304 : Shape := ⟨2, ![384, 2304]⟩
abbrev S384x16 : Shape := ⟨2, ![384, 16]⟩
abbrev S384x112 : Shape := ⟨2, ![384, 112]⟩
abbrev S384x128 : Shape := ⟨2, ![384, 128]⟩
abbrev S128x512 : Shape := ⟨2, ![128, 512]⟩
abbrev S8x128 : Shape := ⟨2, ![8, 128]⟩
abbrev S1x128 : Shape := ⟨2, ![1, 128]⟩
abbrev S32x128 : Shape := ⟨2, ![32, 128]⟩
abbrev S8x128x1 : Shape := ⟨3, ![8, 128, 1]⟩
abbrev S16x128x1 : Shape := ⟨3, ![16, 128, 1]⟩
abbrev S1x384x21120 : Shape := ⟨3, ![1, 384, 21120]⟩

abbrev nBuf : Space → Nat
  | .hbm => 11
  | .vmem => 13
  | .smem => 0
  | _ => 0

abbrev bufTy : (tb : Table) → Fin (tcTables nBuf tb) → BufTy
  | .hbm, ⟨0, _⟩ => ⟨S1x384x2176, .bf16⟩
  | .hbm, ⟨1, _⟩ => ⟨S2176x10560, .i8⟩
  | .hbm, ⟨2, _⟩ => ⟨S34x21120, .f32⟩
  | .hbm, ⟨3, _⟩ => ⟨S2176x16, .bf16⟩
  | .hbm, ⟨4, _⟩ => ⟨S16x21120, .bf16⟩
  | .hbm, ⟨5, _⟩ => ⟨S16, .f32⟩
  | .hbm, ⟨6, _⟩ => ⟨S16x128, .f32⟩
  | .hbm, ⟨7, _⟩ => ⟨S384x2176, .bf16⟩
  | .hbm, ⟨8, _⟩ => ⟨S16x128, .bf16⟩
  | .hbm, ⟨9, _⟩ => ⟨S384x21120, .bf16⟩
  | .hbm, ⟨10, _⟩ => ⟨S1x384x21120, .bf16⟩
  | .local _ .vmem, ⟨0, _⟩ => ⟨S384x2176, .bf16⟩
  | .local _ .vmem, ⟨1, _⟩ => ⟨S2176x256, .i8⟩
  | .local _ .vmem, ⟨2, _⟩ => ⟨S2176x256, .i8⟩
  | .local _ .vmem, ⟨3, _⟩ => ⟨S34x512, .f32⟩
  | .local _ .vmem, ⟨4, _⟩ => ⟨S34x512, .f32⟩
  | .local _ .vmem, ⟨5, _⟩ => ⟨S2176x16, .bf16⟩
  | .local _ .vmem, ⟨6, _⟩ => ⟨S16x512, .bf16⟩
  | .local _ .vmem, ⟨7, _⟩ => ⟨S16x512, .bf16⟩
  | .local _ .vmem, ⟨8, _⟩ => ⟨S16x128, .bf16⟩
  | .local _ .vmem, ⟨9, _⟩ => ⟨S384x512, .bf16⟩
  | .local _ .vmem, ⟨10, _⟩ => ⟨S384x512, .bf16⟩
  | .local _ .vmem, ⟨11, _⟩ => ⟨S2304x512, .bf16⟩
  | .local _ .vmem, ⟨12, _⟩ => ⟨S384x2304, .bf16⟩
  | _, _ => ⟨S1x384x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S384x2176 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2176x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S34x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2176x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x384x2176 : Shape := ⟨3, ![1, 384, 2176]⟩
abbrev S2176x10560 : Shape := ⟨2, ![2176, 10560]⟩
abbrev S34x21120 : Shape := ⟨2, ![34, 21120]⟩
abbrev S2176x16 : Shape := ⟨2, ![2176, 16]⟩
abbrev S16x21120 : Shape := ⟨2, ![16, 21120]⟩
abbrev S_ : Shape := ⟨0, ![]⟩
abbrev S2176x10560x1 : Shape := ⟨3, ![2176, 10560, 1]⟩
abbrev S2176x10560x2 : Shape := ⟨3, ![2176, 10560, 2]⟩
abbrev S2176x21120 : Shape := ⟨2, ![2176, 21120]⟩
abbrev S34x64x21120 : Shape := ⟨3, ![34, 64, 21120]⟩
abbrev S34x1x21120 : Shape := ⟨3, ![34, 1, 21120]⟩
abbrev S1x384x21120 : Shape := ⟨3, ![1, 384, 21120]⟩
abbrev S1x384x16 : Shape := ⟨3, ![1, 384, 16]⟩

abbrev nBuf : Space → Nat
  | .hbm => 103
  | .vmem => 0
  | .smem => 0
  | _ => 0

abbrev bufTy : (tb : Table) → Fin (tcTables nBuf tb) → BufTy
  | .hbm, ⟨0, _⟩ => ⟨S1x384x2176, .bf16⟩
  | .hbm, ⟨1, _⟩ => ⟨S2176x10560, .i8⟩
  | .hbm, ⟨2, _⟩ => ⟨S34x21120, .f32⟩
  | .hbm, ⟨3, _⟩ => ⟨S2176x16, .bf16⟩
  | .hbm, ⟨4, _⟩ => ⟨S16x21120, .bf16⟩
  | .hbm, ⟨5, _⟩ => ⟨S2176x10560, .i32⟩
  | .hbm, ⟨6, _⟩ => ⟨S_, .i32⟩
  | .hbm, ⟨7, _⟩ => ⟨S2176x10560, .i32⟩
  | .hbm, ⟨8, _⟩ => ⟨S2176x10560, .i32⟩
  | .hbm, ⟨9, _⟩ => ⟨S_, .i32⟩
  | .hbm, ⟨10, _⟩ => ⟨S2176x10560, .i32⟩
  | .hbm, ⟨11, _⟩ => ⟨S2176x10560, .i32⟩
  | .hbm, ⟨12, _⟩ => ⟨S2176x10560x1, .i32⟩
  | .hbm, ⟨13, _⟩ => ⟨S2176x10560x1, .i32⟩
  | .hbm, ⟨14, _⟩ => ⟨S2176x10560x2, .i32⟩
  | .hbm, ⟨15, _⟩ => ⟨S2176x21120, .i32⟩
  | .hbm, ⟨16, _⟩ => ⟨S_, .i32⟩
  | .hbm, ⟨17, _⟩ => ⟨S2176x21120, .i32⟩
  | .hbm, ⟨18, _⟩ => ⟨S2176x21120, .i32⟩
  | .hbm, ⟨19, _⟩ => ⟨S_, .i32⟩
  | .hbm, ⟨20, _⟩ => ⟨S2176x21120, .i32⟩
  | .hbm, ⟨21, _⟩ => ⟨S2176x21120, .i1⟩
  | .hbm, ⟨22, _⟩ => ⟨S_, .f32⟩
  | .hbm, ⟨23, _⟩ => ⟨S_, .f32⟩
  | .hbm, ⟨24, _⟩ => ⟨S2176x21120, .f32⟩
  | .hbm, ⟨25, _⟩ => ⟨S2176x21120, .f32⟩
  | .hbm, ⟨26, _⟩ => ⟨S2176x21120, .f32⟩
  | .hbm, ⟨27, _⟩ => ⟨S_, .f32⟩
  | .hbm, ⟨28, _⟩ => ⟨S_, .f32⟩
  | .hbm, ⟨29, _⟩ => ⟨S2176x21120, .f32⟩
  | .hbm, ⟨30, _⟩ => ⟨S2176x21120, .f32⟩
  | .hbm, ⟨31, _⟩ => ⟨S2176x21120, .f32⟩
  | .hbm, ⟨32, _⟩ => ⟨S_, .f32⟩
  | .hbm, ⟨33, _⟩ => ⟨S_, .f32⟩
  | .hbm, ⟨34, _⟩ => ⟨S2176x21120, .f32⟩
  | .hbm, ⟨35, _⟩ => ⟨S2176x21120, .f32⟩
  | .hbm, ⟨36, _⟩ => ⟨S2176x21120, .f32⟩
  | .hbm, ⟨37, _⟩ => ⟨S_, .f32⟩
  | .hbm, ⟨38, _⟩ => ⟨S_, .f32⟩
  | .hbm, ⟨39, _⟩ => ⟨S2176x21120, .f32⟩
  | .hbm, ⟨40, _⟩ => ⟨S2176x21120, .f32⟩
  | .hbm, ⟨41, _⟩ => ⟨S2176x21120, .f32⟩
  | .hbm, ⟨42, _⟩ => ⟨S_, .f32⟩
  | .hbm, ⟨43, _⟩ => ⟨S_, .f32⟩
  | .hbm, ⟨44, _⟩ => ⟨S2176x21120, .f32⟩
  | .hbm, ⟨45, _⟩ => ⟨S2176x21120, .f32⟩
  | .hbm, ⟨46, _⟩ => ⟨S2176x21120, .f32⟩
  | .hbm, ⟨47, _⟩ => ⟨S_, .f32⟩
  | .hbm, ⟨48, _⟩ => ⟨S_, .f32⟩
  | .hbm, ⟨49, _⟩ => ⟨S2176x21120, .f32⟩
  | .hbm, ⟨50, _⟩ => ⟨S2176x21120, .f32⟩
  | .hbm, ⟨51, _⟩ => ⟨S2176x21120, .f32⟩
  | .hbm, ⟨52, _⟩ => ⟨S_, .f32⟩
  | .hbm, ⟨53, _⟩ => ⟨S_, .f32⟩
  | .hbm, ⟨54, _⟩ => ⟨S2176x21120, .f32⟩
  | .hbm, ⟨55, _⟩ => ⟨S2176x21120, .f32⟩
  | .hbm, ⟨56, _⟩ => ⟨S2176x21120, .f32⟩
  | .hbm, ⟨57, _⟩ => ⟨S_, .f32⟩
  | .hbm, ⟨58, _⟩ => ⟨S_, .f32⟩
  | .hbm, ⟨59, _⟩ => ⟨S2176x21120, .f32⟩
  | .hbm, ⟨60, _⟩ => ⟨S2176x21120, .f32⟩
  | .hbm, ⟨61, _⟩ => ⟨S2176x21120, .f32⟩
  | .hbm, ⟨62, _⟩ => ⟨S_, .i32⟩
  | .hbm, ⟨63, _⟩ => ⟨S2176x21120, .i32⟩
  | .hbm, ⟨64, _⟩ => ⟨S2176x21120, .i32⟩
  | .hbm, ⟨65, _⟩ => ⟨S_, .i32⟩
  | .hbm, ⟨66, _⟩ => ⟨S2176x21120, .i32⟩
  | .hbm, ⟨67, _⟩ => ⟨S2176x21120, .i1⟩
  | .hbm, ⟨68, _⟩ => ⟨S2176x21120, .f32⟩
  | .hbm, ⟨69, _⟩ => ⟨S2176x21120, .f32⟩
  | .hbm, ⟨70, _⟩ => ⟨S2176x21120, .f32⟩
  | .hbm, ⟨71, _⟩ => ⟨S2176x21120, .f32⟩
  | .hbm, ⟨72, _⟩ => ⟨S_, .i32⟩
  | .hbm, ⟨73, _⟩ => ⟨S2176x21120, .i32⟩
  | .hbm, ⟨74, _⟩ => ⟨S2176x21120, .i32⟩
  | .hbm, ⟨75, _⟩ => ⟨S_, .i32⟩
  | .hbm, ⟨76, _⟩ => ⟨S2176x21120, .i32⟩
  | .hbm, ⟨77, _⟩ => ⟨S2176x21120, .i1⟩
  | .hbm, ⟨78, _⟩ => ⟨S2176x21120, .f32⟩
  | .hbm, ⟨79, _⟩ => ⟨S2176x21120, .f32⟩
  | .hbm, ⟨80, _⟩ => ⟨S_, .i32⟩
  | .hbm, ⟨81, _⟩ => ⟨S2176x21120, .i32⟩
  | .hbm, ⟨82, _⟩ => ⟨S2176x21120, .i32⟩
  | .hbm, ⟨83, _⟩ => ⟨S_, .i32⟩
  | .hbm, ⟨84, _⟩ => ⟨S2176x21120, .i32⟩
  | .hbm, ⟨85, _⟩ => ⟨S2176x21120, .i1⟩
  | .hbm, ⟨86, _⟩ => ⟨S2176x21120, .f32⟩
  | .hbm, ⟨87, _⟩ => ⟨S34x21120, .bf16⟩
  | .hbm, ⟨88, _⟩ => ⟨S2176x21120, .bf16⟩
  | .hbm, ⟨89, _⟩ => ⟨S34x64x21120, .bf16⟩
  | .hbm, ⟨90, _⟩ => ⟨S34x1x21120, .bf16⟩
  | .hbm, ⟨91, _⟩ => ⟨S34x64x21120, .bf16⟩
  | .hbm, ⟨92, _⟩ => ⟨S34x64x21120, .bf16⟩
  | .hbm, ⟨93, _⟩ => ⟨S2176x21120, .bf16⟩
  | .hbm, ⟨94, _⟩ => ⟨S1x384x21120, .f32⟩
  | .hbm, ⟨95, _⟩ => ⟨S1x384x16, .f32⟩
  | .hbm, ⟨96, _⟩ => ⟨S1x384x16, .bf16⟩
  | .hbm, ⟨97, _⟩ => ⟨S1x384x21120, .f32⟩
  | .hbm, ⟨98, _⟩ => ⟨S_, .f32⟩
  | .hbm, ⟨99, _⟩ => ⟨S1x384x21120, .f32⟩
  | .hbm, ⟨100, _⟩ => ⟨S1x384x21120, .f32⟩
  | .hbm, ⟨101, _⟩ => ⟨S1x384x21120, .f32⟩
  | .hbm, ⟨102, _⟩ => ⟨S1x384x21120, .bf16⟩
  | _, _ => ⟨S1x384x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_cst_4 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v14 : Ref sig .tc := ⟨.hbm, 31, rfl⟩
abbrev main_cst_6 : Ref sig .tc := ⟨.hbm, 32, rfl⟩
abbrev main_cst_7 : Ref sig .tc := ⟨.hbm, 33, rfl⟩
abbrev main_call2_v0 : Ref sig .tc := ⟨.hbm, 34, rfl⟩
abbrev main_call2_v1 : Ref sig .tc := ⟨.hbm, 35, rfl⟩
abbrev main_v15 : Ref sig .tc := ⟨.hbm, 36, rfl⟩
abbrev main_cst_8 : Ref sig .tc := ⟨.hbm, 37, rfl⟩
abbrev main_cst_9 : Ref sig .tc := ⟨.hbm, 38, rfl⟩
abbrev main_call3_v0 : Ref sig .tc := ⟨.hbm, 39, rfl⟩
abbrev main_call3_v1 : Ref sig .tc := ⟨.hbm, 40, rfl⟩
abbrev main_v16 : Ref sig .tc := ⟨.hbm, 41, rfl⟩
abbrev main_cst_10 : Ref sig .tc := ⟨.hbm, 42, rfl⟩
abbrev main_cst_11 : Ref sig .tc := ⟨.hbm, 43, rfl⟩
abbrev main_call4_v0 : Ref sig .tc := ⟨.hbm, 44, rfl⟩
abbrev main_call4_v1 : Ref sig .tc := ⟨.hbm, 45, rfl⟩
abbrev main_v17 : Ref sig .tc := ⟨.hbm, 46, rfl⟩
abbrev main_cst_12 : Ref sig .tc := ⟨.hbm, 47, rfl⟩
abbrev main_cst_13 : Ref sig .tc := ⟨.hbm, 48, rfl⟩
abbrev main_call5_v0 : Ref sig .tc := ⟨.hbm, 49, rfl⟩
abbrev main_call5_v1 : Ref sig .tc := ⟨.hbm, 50, rfl⟩
abbrev main_v18 : Ref sig .tc := ⟨.hbm, 51, rfl⟩
abbrev main_cst_14 : Ref sig .tc := ⟨.hbm, 52, rfl⟩
abbrev main_cst_15 : Ref sig .tc := ⟨.hbm, 53, rfl⟩
abbrev main_call6_v0 : Ref sig .tc := ⟨.hbm, 54, rfl⟩
abbrev main_call6_v1 : Ref sig .tc := ⟨.hbm, 55, rfl⟩
abbrev main_v19 : Ref sig .tc := ⟨.hbm, 56, rfl⟩
abbrev main_cst_16 : Ref sig .tc := ⟨.hbm, 57, rfl⟩
abbrev main_cst_17 : Ref sig .tc := ⟨.hbm, 58, rfl⟩
abbrev main_call7_v0 : Ref sig .tc := ⟨.hbm, 59, rfl⟩
abbrev main_call7_v1 : Ref sig .tc := ⟨.hbm, 60, rfl⟩
abbrev main_v20 : Ref sig .tc := ⟨.hbm, 61, rfl⟩
abbrev main_c_18 : Ref sig .tc := ⟨.hbm, 62, rfl⟩
abbrev main_v21 : Ref sig .tc := ⟨.hbm, 63, rfl⟩
abbrev main_v22 : Ref sig .tc := ⟨.hbm, 64, rfl⟩
abbrev main_c_19 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_c_20 : Ref sig .tc := ⟨.hbm, 72, rfl⟩
abbrev main_v29 : Ref sig .tc := ⟨.hbm, 73, rfl⟩
abbrev main_v30 : Ref sig .tc := ⟨.hbm, 74, rfl⟩
abbrev main_c_21 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_c_22 : Ref sig .tc := ⟨.hbm, 80, rfl⟩
abbrev main_v35 : Ref sig .tc := ⟨.hbm, 81, rfl⟩
abbrev main_v36 : Ref sig .tc := ⟨.hbm, 82, rfl⟩
abbrev main_c_23 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_cst_24 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩

abbrev nD : Nat := 1
abbrev τ : Topo := Topo.v7x

variable {F : FTy → Type} [FloatOps F]
-- ==== Proof.Loop.lean ====
/-
  The kernel's body as a program with loops. The kernel is written out store by store: 544 pieces of 16 rows and 128 columns of the
  decoded weight. `body` says the same with four nested counted loops, and `cc0_qlora_eq` proves the two programs equal.
-/
module

public import proofs.«01_k».proof.Proof.Gen.Kernel
public import Idealize.ShloMosaic.Lib.Tactic

@[expose] public section

set_option maxRecDepth 65536

noncomputable section

namespace Cert.Proof

open Cert.Kernel Cert.Kernel.Gen
open Idealize.ShloMosaic Idealize.ShloMosaic.Tactic Idealize.SL.Sem

variable {F : FTy → Type} [FloatOps F]

/-- Run `f 0`, `f 1`, …, `f (n - 1)` one after the other. -/
def inOrder {E : Type → Type} : (n : Nat) → (Fin n → Prog E PUnit) → Prog E PUnit
  | 0, _ => pure ⟨⟩
  | n + 1, f => f 0 >>= fun _ => inOrder n fun i => f i.succ

/-! ## Which pieces the loops touch -/

/-- Piece `q` of half `g` of block `b` at columns `c` lies in the decoded weight's buffer. -/
theorem inb_piece (c : Fin 4) (b : Fin 34) (g q : Fin 2) :
    ∀ a, (![64 * b.val + 32 * g.val + 16 * q.val, 128 * c.val] : Fin 2 → Nat) a + S16x128.size a ≤ S2304x512.size a := by
  intro a; fin_cases a <;> simp [S16x128, S2304x512] <;> omega
/-- It starts at an even row and takes an even number of rows: whole words of packed pairs. -/
theorem packed_piece (c : Fin 4) (b : Fin 34) (g q : Fin 2) :
    (Rect.unit (s := S2304x512) ![64 * b.val + 32 * g.val + 16 * q.val, 128 * c.val] S16x128.size (inb_piece c b g q)).PackedRows
      (EltTy.packing .bf16) :=
  .inr ⟨by decide, rfl, .inl ⟨by
    show 2 ∣ 64 * b.val + 32 * g.val + 16 * q.val
    omega, by show 2 ∣ 16; decide⟩⟩
/-- Row `b` of the scales, at columns `c`, lies in the block of scales. -/
theorem inb_scale (c : Fin 4) (b : Fin 34) :
    ∀ a, (![b.val, 128 * c.val] : Fin 2 → Nat) a + S1x128.size a ≤ S34x512.size a := by
  intro a; fin_cases a <;> simp [S1x128, S34x512] <;> omega
/-- The 32 rows of bytes that half `g` of block `b` decodes lie in the block of bytes. -/
theorem inb_bytes (c : Fin 4) (b : Fin 34) (g : Fin 2) :
    ∀ a, (![64 * b.val + 32 * g.val, 128 * (c.val / 2)] : Fin 2 → Nat) a + S32x128.size a ≤ S2176x256.size a := by
  intro a; fin_cases a <;> simp [S32x128, S2176x256] <;> omega
/-- Rows `16 q` to `16 q + 15` of 32. -/
theorem slices_half (q : Fin 2) : S32x128.Slices ![16 * q.val, 0] S16x128 := by revert q; decide

/-! ## The loops' values -/

/-- The lanes' numbers. -/
def lane : IVec S8x128 32 := iota .tc S8x128 32 [1] iota_S8x128_d1_w32
/-- How far each lane shifts: an even lane takes the low four bits, an odd one the high four. -/
def shift : IVec S8x128 32 := muli (andi lane (broadcast S8x128 1#32)) (broadcast S8x128 4#32)
/-- Which lane of the bytes each lane of column tile `c` reads: half its number, and 64 more in the odd tiles. -/
def src (c : Fin 4) : IVec S8x128 32 :=
  addi (shrsi lane (broadcast S8x128 1#32)) (broadcast S8x128 (BitVec.ofNat 32 (c.val % 2 * 64)))
/-- The table of levels times one row of scales. -/
def scaled (v4 : FVec F S16x128 .bf16) (v14 : Vec F S1x128 .f32) : FVec F S16x128 .bf16 :=
  mulf v4 (broadcastTo S16x128 (truncf .bf16 v14 bitsLt_bf16_f32) broadcasts_S1x128_S16x128)
/-- The codes of 32 rows of bytes, at column tile `c`. -/
def codes (c : Fin 4) (v : IVec S32x128 8) : IVec S32x128 16 :=
  extsi 16 (bitcast S32x128 8 (andi (shrsi (dynamicGather 1 (bitcast S8x128 32 v bitcasts_S32x128_w8_S8x128_w32)
    (shapeCast S8x128 (shapeCast S8x128x1 (src c) shapeCasts_S8x128_S8x128x1) shapeCasts_S8x128x1_S8x128)) shift)
    (broadcast S8x128 252645135#32)) bitcasts_S8x128_w32_S32x128_w8) natLt_8_16
/-- The piece of the decoded weight at rows `16 q` to `16 q + 15` of those codes: each code's level in the scaled table. -/
def piece (v4 : FVec F S16x128 .bf16) (c : Fin 4) (v14 : Vec F S1x128 .f32) (v : IVec S32x128 8) (q : Fin 2) : FVec F S16x128 .bf16 :=
  shapeCast S16x128 (dynamicGather 0 (scaled v4 v14) (shapeCast S16x128 (shapeCast S16x128x1
    (extsi 32 (extractStridedSlice S16x128 ![16 * q.val, 0] (codes c v) (slices_half q)) natLt_16_32)
    shapeCasts_S16x128_S16x128x1) shapeCasts_S16x128x1_S16x128)) shapeCasts_S16x128_S16x128

/-! ## The body -/

section
variable (i : grid0.Coords)
  (arg1 : Memref sig .tc .vmem S384x2176 .bf16) (harg1 : arg1.IsWhole) (arg2 : Memref sig .tc .vmem S2176x256 .i8) (harg2 : arg2.IsWhole)
  (arg3 : Memref sig .tc .vmem S34x512 .f32) (harg3 : arg3.IsWhole) (arg4 : Memref sig .tc .vmem S2176x16 .bf16) (harg4 : arg4.IsWhole)
  (arg5 : Memref sig .tc .vmem S16x512 .bf16) (harg5 : arg5.IsWhole) (arg6 : Memref sig .tc .vmem S16x128 .bf16) (harg6 : arg6.IsWhole)
  (arg7 : Memref sig .tc .vmem S384x512 .bf16) (harg7 : arg7.IsWhole) (arg8 : Memref sig .tc .vmem S2304x512 .bf16) (harg8 : arg8.IsWhole)
  (arg9 : Memref sig .tc .vmem S384x2304 .bf16) (harg9 : arg9.IsWhole)

/-- `[h · 2 | 0]`: the columns right of `x` in the left factor, with `h = x · lora_a`. -/
def sidePart (x : Vec F S384x2176 .bf16) (la : Vec F S2176x16 .bf16) : FVec F S384x128 .bf16 :=
  shapeCast S384x128 (concatenate S384x128 1
    [⟨S384x16, mulf (truncf .bf16 (matmul dot_S384x2176_S2176x16_S384x16_1_0_0_1_n_n none (shapeCast S384x2176 x shapeCasts_S384x2176_S384x2176) la
        (constant S384x16 .f32 0x00000000#32)) bitsLt_bf16_f32) (broadcast S384x16 (Scalar.ofBits .bf16 0x4000#16))⟩,
      ⟨S384x112, broadcast S384x112 (Scalar.ofBits .bf16 0x0000#16)⟩] concatenates_S384x16_S384x112_S384x128_d1) shapeCasts_S384x128_S384x128
/-- `x` as the left factor's first columns. -/
def mainPart (x : Vec F S384x2176 .bf16) : FVec F S384x2176 .bf16 :=
  shapeCast S384x2176 (shapeCast S384x2176 x shapeCasts_S384x2176_S384x2176) shapeCasts_S384x2176_S384x2176
/-- Zeros, for the right factor's last rows. -/
def zeroRows : FVec F S128x512 .bf16 :=
  shapeCast S128x512 (broadcast S128x512 (Scalar.ofBits .bf16 0x0000#16 : F .bf16)) shapeCasts_S128x512_S128x512
/-- The product of the two factors. -/
def product (u : Vec F S384x2304 .bf16) (w : Vec F S2304x512 .bf16) : FVec F S384x512 .bf16 :=
  truncf .bf16 (matmul dot_S384x2304_S2304x512_S384x512_1_0_0_1_n_n none u w (constant S384x512 .f32 0x00000000#32)) bitsLt_bf16_f32

/-- Whether this is the first grid point. -/
def isFirst : BitVec 1 :=
  Scalar.cmpi .ne (Scalar.extui (Scalar.cmpi .eq (BitVec.ofNat 32 (i 0).val) (0#32 : BitVec 32)) : BitVec 32) (0#32 : BitVec 32)

/-- At the first grid point: the left factor, whole, and zeros in the right factor's last rows. -/
def prepare : Prog (TpuEff nD τ sig (Elt F) Λ₀ .tc) PUnit := do
  let x : Vec F S384x2176 .bf16 ← Prog.lift (.load arg1 (Rect.unit (s := S384x2176) ![0, 0] S384x2176.size inb_S384x2176_S384x2176_0_0).toLoadRect (View.loadsAt_vmem h_S384x2176))
  let la : Vec F S2176x16 .bf16 ← Prog.lift (.load arg4 (Rect.unit (s := S2176x16) ![0, 0] S2176x16.size inb_S2176x16_S2176x16_0_0).toLoadRect (View.loadsAt_vmem h_S2176x16))
  let _ : Vec F S384x2176 .bf16 ← Prog.lift (.load arg9 (Rect.unit (s := S384x2304) ![0, 0] S384x2176.size inb_S384x2304_S384x2176_0_0).toLoadRect (View.loadsAt_vmem h_S384x2176))
  Prog.lift (.store arg9 (Rect.unit (s := S384x2304) ![0, 0] S384x2176.size inb_S384x2304_S384x2176_0_0) (mainPart x) Finset.univ (View.stores_vmem h_S384x2176 (harg9.storeExact_slice rfl _ packedbf16_S384x2304_S384x2176_0_0) (fun _ => rfl)) (.inl rfl))
  let _ : Vec F S384x128 .bf16 ← Prog.lift (.load arg9 (Rect.unit (s := S384x2304) ![0, 2176] S384x128.size inb_S384x2304_S384x128_0_2176).toLoadRect (View.loadsAt_vmem h_S384x128))
  Prog.lift (.store arg9 (Rect.unit (s := S384x2304) ![0, 2176] S384x128.size inb_S384x2304_S384x128_0_2176) (sidePart x la) Finset.univ (View.stores_vmem h_S384x128 (harg9.storeExact_slice rfl _ packedbf16_S384x2304_S384x128_0_2176) (fun _ => rfl)) (.inl rfl))
  let _ : Vec F S128x512 .bf16 ← Prog.lift (.load arg8 (Rect.unit (s := S2304x512) ![2176, 0] S128x512.size inb_S2304x512_S128x512_2176_0).toLoadRect (View.loadsAt_vmem h_S128x512))
  Prog.lift (.store arg8 (Rect.unit (s := S2304x512) ![2176, 0] S128x512.size inb_S2304x512_S128x512_2176_0) zeroRows Finset.univ (View.stores_vmem h_S128x512 (harg8.storeExact_slice rfl _ packedbf16_S2304x512_S128x512_2176_0) (fun _ => rfl)) (.inl rfl))
  pure ⟨⟩

/-- Store one piece of the decoded weight. -/
def storePiece (v4 : FVec F S16x128 .bf16) (c : Fin 4) (b : Fin 34) (g : Fin 2) (v14 : Vec F S1x128 .f32) (v : IVec S32x128 8) (q : Fin 2) :
    Prog (TpuEff nD τ sig (Elt F) Λ₀ .tc) PUnit := do
  let _ : Vec F S16x128 .bf16 ← Prog.lift (.load arg8 (Rect.unit (s := S2304x512) ![64 * b.val + 32 * g.val + 16 * q.val, 128 * c.val] S16x128.size (inb_piece c b g q)).toLoadRect (View.loadsAt_vmem h_S16x128))
  Prog.lift (.store arg8 (Rect.unit (s := S2304x512) ![64 * b.val + 32 * g.val + 16 * q.val, 128 * c.val] S16x128.size (inb_piece c b g q)) (piece v4 c v14 v q) Finset.univ (View.stores_vmem h_S16x128 (harg8.storeExact_slice rfl _ (packed_piece c b g q)) (fun _ => rfl)) (.inl rfl))

/-- Decode half `g` of block `b` at column tile `c`. -/
def decodeHalf (v4 : FVec F S16x128 .bf16) (c : Fin 4) (b : Fin 34) (v14 : Vec F S1x128 .f32) (g : Fin 2) : Prog (TpuEff nD τ sig (Elt F) Λ₀ .tc) PUnit := do
  let v : Vec F S32x128 .i8 ← Prog.lift (.load arg2 (Rect.unit (s := S2176x256) ![64 * b.val + 32 * g.val, 128 * (c.val / 2)] S32x128.size (inb_bytes c b g)).toLoadRect (View.loadsAt_vmem h_S32x128))
  inOrder 2 (storePiece arg8 harg8 v4 c b g v14 v)

/-- Decode block `b` at column tile `c`. -/
def decodeBlock (v4 : FVec F S16x128 .bf16) (c : Fin 4) (b : Fin 34) : Prog (TpuEff nD τ sig (Elt F) Λ₀ .tc) PUnit := do
  let v14 : Vec F S1x128 .f32 ← Prog.lift (.load arg3 (Rect.unit (s := S34x512) ![b.val, 128 * c.val] S1x128.size (inb_scale c b)).toLoadRect (View.loadsAt_vmem h_S1x128))
  inOrder 2 (decodeHalf arg2 arg8 harg8 v4 c b v14)

/-- The rest of the body: `lora_b` into the right factor, the product, the result's block. -/
def finish : Prog (TpuEff nD τ sig (Elt F) Λ₀ .tc) PUnit := do
  let v7642 : Vec F S16x512 .bf16 ← Prog.lift (.load arg5 (Rect.unit (s := S16x512) ![0, 0] S16x512.size inb_S16x512_S16x512_0_0).toLoadRect (View.loadsAt_vmem h_S16x512))
  let _ : Vec F S16x512 .bf16 ← Prog.lift (.load arg8 (Rect.unit (s := S2304x512) ![2176, 0] S16x512.size inb_S2304x512_S16x512_2176_0).toLoadRect (View.loadsAt_vmem h_S16x512))
  Prog.lift (.store arg8 (Rect.unit (s := S2304x512) ![2176, 0] S16x512.size inb_S2304x512_S16x512_2176_0) (shapeCast S16x512 v7642 shapeCasts_S16x512_S16x512) Finset.univ (View.stores_vmem h_S16x512 (harg8.storeExact_slice rfl _ packedbf16_S2304x512_S16x512_2176_0) (fun _ => rfl)) (.inl rfl))
  let u : Vec F S384x2304 .bf16 ← Prog.lift (.load arg9 (Rect.unit (s := S384x2304) ![0, 0] S384x2304.size inb_S384x2304_S384x2304_0_0).toLoadRect (View.loadsAt_vmem h_S384x2304))
  let w : Vec F S2304x512 .bf16 ← Prog.lift (.load arg8 (Rect.unit (s := S2304x512) ![0, 0] S2304x512.size inb_S2304x512_S2304x512_0_0).toLoadRect (View.loadsAt_vmem h_S2304x512))
  let _ : Vec F S384x512 .bf16 ← Prog.lift (.load arg7 (Rect.unit (s := S384x512) ![0, 0] S384x512.size inb_S384x512_S384x512_0_0).toLoadRect (View.loadsAt_vmem h_S384x512))
  Prog.lift (.store arg7 (Rect.unit (s := S384x512) ![0, 0] S384x512.size inb_S384x512_S384x512_0_0) (product u w) Finset.univ (View.stores_vmem h_S384x512 (harg7.storeExact_slice rfl _ packedbf16_S384x512_S384x512_0_0) (fun _ => rfl)) (.inl rfl))
  pure ⟨⟩

/-- The body after the first point's preparation. -/
def work : Prog (TpuEff nD τ sig (Elt F) Λ₀ .tc) PUnit := do
  let v3 : Vec F S16x128 .bf16 ← Prog.lift (.load arg6 (Rect.unit (s := S16x128) ![0, 0] S16x128.size inb_S16x128_S16x128_0_0).toLoadRect (View.loadsAt_vmem h_S16x128))
  inOrder 4 fun c => inOrder 34 (decodeBlock arg2 arg3 arg8 harg8 (shapeCast S16x128 v3 shapeCasts_S16x128_S16x128) c)
  finish arg5 arg7 harg7 arg8 harg8 arg9

/-- The preparation, at the first point only. -/
def begin : Prog (TpuEff nD τ sig (Elt F) Λ₀ .tc) PUnit :=
  if isFirst i = 1#1 then prepare arg1 arg4 arg8 harg8 arg9 harg9 else pure ⟨⟩

/-- The kernel's body, with its loops. -/
def body : Prog (TpuEff nD τ sig (Elt F) Λ₀ .tc) PUnit :=
  begin i arg1 arg4 arg8 harg8 arg9 harg9 >>= fun _ => work arg2 arg3 arg5 arg6 arg7 harg7 arg8 harg8 arg9

/-- The loops' first statements, as far as the first 60 statements of the kernel go. -/
def work1 : Prog (TpuEff nD τ sig (Elt F) Λ₀ .tc) (Σ' (v4 : FVec F S16x128 .bf16) (v5 : IVec S8x128 32) (v9 : IVec S8x128 32) (v13 : IVec S8x128 32) (v17 : FVec F S16x128 .bf16), FVec F S16x128 .bf16) := do
  let v3 : Vec F S16x128 .bf16 ← Prog.lift (.load arg6 (Rect.unit (s := S16x128) ![0, 0] S16x128.size inb_S16x128_S16x128_0_0).toLoadRect (View.loadsAt_vmem h_S16x128))
  let v14 : Vec F S1x128 .f32 ← Prog.lift (.load arg3 (Rect.unit (s := S34x512) ![0, 0] S1x128.size inb_S34x512_S1x128_0_0).toLoadRect (View.loadsAt_vmem h_S1x128))
  let v : Vec F S32x128 .i8 ← Prog.lift (.load arg2 (Rect.unit (s := S2176x256) ![0, 0] S32x128.size inb_S2176x256_S32x128_0_0).toLoadRect (View.loadsAt_vmem h_S32x128))
  storePiece arg8 harg8 (shapeCast S16x128 v3 shapeCasts_S16x128_S16x128) 0 0 0 v14 v 0
  pure ⟨shapeCast S16x128 v3 shapeCasts_S16x128_S16x128, lane, shift, src 0, scaled (shapeCast S16x128 v3 shapeCasts_S16x128_S16x128) v14,
    dynamicGather 0 (scaled (shapeCast S16x128 v3 shapeCasts_S16x128_S16x128) v14) (shapeCast S16x128 (shapeCast S16x128x1
    (extsi 32 (extractStridedSlice S16x128 ![16, 0] (codes 0 v) (slices_half 1)) natLt_16_32)
    shapeCasts_S16x128_S16x128x1) shapeCasts_S16x128x1_S16x128)⟩

/-- The first 60 statements: the preparation, and the first statements of the loops. -/
theorem k0_part1_eq : k0_part1 (F := F) i arg1 harg1 arg2 harg2 arg3 harg3 arg4 harg4 arg5 harg5 arg6 harg6 arg7 harg7 arg8 harg8 arg9 harg9
    = begin i arg1 arg4 arg8 harg8 arg9 harg9 >>= fun _ => work1 arg2 arg3 arg6 arg8 harg8 := by
  by_cases h : isFirst i = 1#1
  · unfold begin k0_part1
    rw [if_pos h]
    refine (dif_pos h).trans ?_
    sl_kernel_rfl
  · unfold begin k0_part1
    rw [if_neg h]
    refine (dif_neg h).trans ?_
    sl_kernel_rfl

set_option maxHeartbeats 0 in
/-- The kernel as written is the body with its loops. -/
theorem cc0_qlora_eq : cc0_qlora (F := F) i arg1 harg1 arg2 harg2 arg3 harg3 arg4 harg4 arg5 harg5 arg6 harg6 arg7 harg7 arg8 harg8 arg9 harg9
    = body i arg1 arg2 arg3 arg4 arg5 arg6 arg7 harg7 arg8 harg8 arg9 harg9 := by
  unfold cc0_qlora k0_part174 body
  rw [k0_part1_eq]
  rw [Prog.bind_assoc, Prog.bind_assoc]
  refine congrArg _ (funext fun _ => ?_)
  sl_kernel_rfl

end

end Cert.Proof

end
-- ==== Proof.Body.lean ====
/-
  What the body does to the buffers, at any float values: it leaves in the first 2176 rows of the decoded weight's buffer what
  `decoded` says, puts `lora_b`'s block below, and stores the product of the two factors.
-/
module

public import proofs.«01_k».proof.Proof.Loop
public import Idealize.ShloMosaic.Lib.Pipeline.Kit
public import Idealize.ShloMosaic.Lib.Memref
public import Idealize.ShloMosaic.Lib.Writes

@[expose] public section

set_option maxRecDepth 65536

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

section rules
variable (c : Dev nD) (E : Set ℕ) {sp : CoreSpace} {s : Shape} {e : EltTy}

/-- A load through a rectangle reads the memref's contents there. -/
theorem load_owns (M : Memref sig .tc sp s e) (q : PosShare TreeShare) (X : s.Idx → Elt F e) (r : Rect s) (hl : M.view.LoadsAt r.toLoadRect)
    {α : Type} (k : (r.shape.Idx → Elt F e) → Prog (TpuEff nD τ sig (Elt F) Λ₀ .tc) α) (Q : α → sProp 𝕄) :
    iprop(owns (c : Thread nD τ) M q X
        ∗ (owns (c : Thread nD τ) M q X -∗ wp frame (wpE (defs₀ (F := F)) 𝒱₀ c none) E (k fun j => X (r.idx j)) Q))
      ⊢ wp frame (wpE (defs₀ (F := F)) 𝒱₀ c none) E (Prog.lift (.load M r.toLoadRect hl) >>= k) Q := by
  unfold owns
  iintro ⟨⟨%f, %hf, H⟩, Hk⟩
  subst hf
  iapply (wp_load (defs := defs₀ (F := F)) 𝒱₀ (c : Thread nD τ) none E (m := M) (r := r.toLoadRect) (hl := hl) (k := k) (Q := Q)
    (S := M.view.set) (q := q) (f := f) (Finset.map_subset_map.mpr (Finset.subset_univ _))) $$ H
  iintro H
  iapply Hk
  iexists f; isplitr; · ipureintro; rfl
  iexact H

/-- An unmasked store replaces the contents on its rectangle. -/
theorem store_owns (M : Memref sig .tc sp s e) (X : s.Idx → Elt F e) (r : Rect s) (w : r.shape.Idx → Elt F e)
    (hx : (M.access r).Stores Finset.univ) (hm : Finset.univ = Finset.univ ∨ ∀ a, r.stride a = 1)
    {α : Type} (k : PUnit → Prog (TpuEff nD τ sig (Elt F) Λ₀ .tc) α) (Q : α → sProp 𝕄) :
    iprop(owns (c : Thread nD τ) M fullShare X
        ∗ (owns (c : Thread nD τ) M fullShare (r.overlay X w) -∗ wp frame (wpE (defs₀ (F := F)) 𝒱₀ c none) E (k ⟨⟩) Q))
      ⊢ wp frame (wpE (defs₀ (F := F)) 𝒱₀ c none) E (Prog.lift (.store M r w Finset.univ hx hm) >>= k) Q := by
  unfold owns
  iintro ⟨⟨%f, %hf, H⟩, Hk⟩
  subst hf
  iapply (wp_store (defs := defs₀ (F := F)) 𝒱₀ (c : Thread nD τ) none E (m := M) (r := r) (w := w) (Mk := Finset.univ) (hx := hx) (hm := hm)
    (k := k) (Q := Q) (S := M.view.set) (f := f) (M.view.set_slice_subset r)) $$ H
  iintro H
  iapply Hk
  iexists (M.access r).write (Elt F) f w Finset.univ; isplitr
  · ipureintro
    funext y
    by_cases hy : y ∈ r.set
    · obtain ⟨j, rfl⟩ : ∃ j, r.emb j = y := by
        rw [← Rect.map_emb_univ] at hy
        simpa using hy
      rw [Rect.overlay_emb]
      exact View.read_slice_write_emb r f w (Finset.mem_univ j)
    · rw [Rect.overlay_of_not_mem _ _ _ hy]
      exact View.read_slice_write_of_not_mem r f w Finset.univ (by rwa [Rect.map_emb_univ])
  · iexact H

end rules

/-! ## Filling the decoded weight's buffer -/

open Classical in
/-- `X` with its values on `A` replaced by `G`'s. -/
def onto {ι α : Type} (A : Set ι) (G X : ι → α) : ι → α := fun y => if y ∈ A then G y else X y

theorem onto_onto {ι α : Type} (A B : Set ι) (G X : ι → α) : onto B G (onto A G X) = onto (A ∪ B) G X := by
  funext y; unfold onto
  by_cases hA : y ∈ A <;> by_cases hB : y ∈ B <;> simp [hA, hB]

theorem onto_empty {ι α : Type} (G X : ι → α) : onto ∅ G X = X := by
  funext y; simp [onto]

/-- The first rows of the right factor: the decoded weight, from the table, the block of bytes and the block of scales. -/
def decoded (v4 : FVec F S16x128 .bf16) (Wp : S2176x256.Idx → Elt F .i8) (Sc : S34x512.Idx → Elt F .f32)
    (c : Fin 4) (b : Fin 34) (g q : Fin 2) : FVec F S16x128 .bf16 :=
  piece v4 c (fun j => Sc ((Rect.unit (s := S34x512) ![b.val, 128 * c.val] S1x128.size (inb_scale c b)).idx j))
    (fun j => Wp ((Rect.unit (s := S2176x256) ![64 * b.val + 32 * g.val, 128 * (c.val / 2)] S32x128.size (inb_bytes c b g)).idx j)) q

/-- The rectangle of one piece. -/
abbrev pieceRect (c : Fin 4) (b : Fin 34) (g q : Fin 2) : Rect S2304x512 :=
  Rect.unit (s := S2304x512) ![64 * b.val + 32 * g.val + 16 * q.val, 128 * c.val] S16x128.size (inb_piece c b g q)

section fills
variable (c : Dev nD) (E : Set ℕ)
  (arg2 : Memref sig .tc .vmem S2176x256 .i8) (arg3 : Memref sig .tc .vmem S34x512 .f32)
  (arg8 : Memref sig .tc .vmem S2304x512 .bf16) (harg8 : arg8.IsWhole)
  (v4 : FVec F S16x128 .bf16) (Wp : S2176x256.Idx → Elt F .i8) (Sc : S34x512.Idx → Elt F .f32) (G : S2304x512.Idx → Elt F .bf16)

/-- `p` replaces the decoded weight's buffer by `G` on `A`, and leaves the bytes and the scales as they are. -/
def Fills (p : Prog (TpuEff nD τ sig (Elt F) Λ₀ .tc) PUnit) (A : Set S2304x512.Idx) : Prop :=
  ∀ (X : S2304x512.Idx → Elt F .bf16) (Q : PUnit → sProp 𝕄),
    iprop((owns (c : Thread nD τ) arg2 fullShare Wp ∗ owns (c : Thread nD τ) arg3 fullShare Sc ∗ owns (c : Thread nD τ) arg8 fullShare X)
        ∗ ((owns (c : Thread nD τ) arg2 fullShare Wp ∗ owns (c : Thread nD τ) arg3 fullShare Sc ∗ owns (c : Thread nD τ) arg8 fullShare (onto A G X))
            -∗ Q ⟨⟩))
      ⊢ wp frame (wpE (defs₀ (F := F)) 𝒱₀ c none) E p Q

/-- One program after another fills both sets. -/
theorem Fills.bind {p q : Prog (TpuEff nD τ sig (Elt F) Λ₀ .tc) PUnit} {A B : Set S2304x512.Idx}
    (hp : Fills c E arg2 arg3 arg8 Wp Sc G p A) (hq : Fills c E arg2 arg3 arg8 Wp Sc G q B) :
    Fills c E arg2 arg3 arg8 Wp Sc G (p >>= fun _ => q) (A ∪ B) := by
  intro X Q
  rw [wp_bind]
  refine BIBase.Entails.trans ?_ (hp X _)
  iintro ⟨H, Hk⟩
  isplitl [H]; · iexact H
  iintro H
  iapply (hq (onto A G X) Q)
  isplitl [H]; · iexact H
  rw [onto_onto]
  iexact Hk

/-- A counted loop fills what its rounds fill. -/
theorem Fills.inOrder {n : Nat} {f : Fin n → Prog (TpuEff nD τ sig (Elt F) Λ₀ .tc) PUnit} {A : Fin n → Set S2304x512.Idx}
    (h : ∀ i, Fills c E arg2 arg3 arg8 Wp Sc G (f i) (A i)) : Fills c E arg2 arg3 arg8 Wp Sc G (inOrder n f) (⋃ i, A i) := by
  induction n with
  | zero =>
    intro X Q
    rw [Set.iUnion_of_empty, onto_empty]
    unfold Cert.Proof.inOrder
    iintro ⟨H, Hk⟩
    iapply (le_wp_ret _ _ _ _ _)
    iapply Hk
    iexact H
  | succ n ih =>
    have := Fills.bind c E arg2 arg3 arg8 Wp Sc G (h 0) (ih fun i => h i.succ)
    rwa [show (A 0 ∪ ⋃ i : Fin n, A i.succ) = ⋃ i, A i by
      ext y; simp only [Set.mem_union, Set.mem_iUnion]
      exact (Fin.exists_fin_succ (P := fun i => y ∈ A i)).symm] at this

/-- One piece is filled. -/
theorem storePiece_fills (t : Fin 4) (b : Fin 34) (g q : Fin 2)
    (hG : ∀ (t : Fin 4) (b : Fin 34) (g q : Fin 2) j, G ((pieceRect t b g q).emb j) = decoded v4 Wp Sc t b g q j) :
    Fills c E arg2 arg3 arg8 Wp Sc G (storePiece arg8 harg8 v4 t b g
      (fun j => Sc ((Rect.unit (s := S34x512) ![b.val, 128 * t.val] S1x128.size (inb_scale t b)).idx j))
      (fun j => Wp ((Rect.unit (s := S2176x256) ![64 * b.val + 32 * g.val, 128 * (t.val / 2)] S32x128.size (inb_bytes t b g)).idx j)) q)
      ((pieceRect t b g q).set : Set _) := by
  intro X Q
  unfold storePiece
  iintro ⟨⟨H2, H3, H8⟩, Hk⟩
  iapply (load_owns c E arg8 fullShare X _ _ _ Q)
  isplitl [H8]; · iexact H8
  iintro H8
  rw [← bind_pure (Prog.lift _)]
  iapply (store_owns c E arg8 X _ _ _ _ _ Q)
  isplitl [H8]; · iexact H8
  iintro H8
  iapply (le_wp_ret _ _ _ _ _)
  iapply Hk
  isplitl [H2]; · iexact H2
  isplitl [H3]; · iexact H3
  have : (pieceRect t b g q).overlay X (decoded v4 Wp Sc t b g q) = onto ((pieceRect t b g q).set : Set _) G X := by
    funext y
    unfold onto
    by_cases hy : y ∈ (pieceRect t b g q).set
    · obtain ⟨j, rfl⟩ : ∃ j, (pieceRect t b g q).emb j = y := by
        rw [← Rect.map_emb_univ] at hy
        simpa using hy
      rw [Rect.overlay_emb, if_pos (by exact hy), hG]
    · rw [Rect.overlay_of_not_mem _ _ _ hy, if_neg (by exact hy)]
  rw [← this]
  iexact H8

/-- Half a block of one column tile is filled. -/
theorem decodeHalf_fills (t : Fin 4) (b : Fin 34) (g : Fin 2)
    (hG : ∀ (t : Fin 4) (b : Fin 34) (g q : Fin 2) j, G ((pieceRect t b g q).emb j) = decoded v4 Wp Sc t b g q j) :
    Fills c E arg2 arg3 arg8 Wp Sc G (decodeHalf arg2 arg8 harg8 v4 t b
      (fun j => Sc ((Rect.unit (s := S34x512) ![b.val, 128 * t.val] S1x128.size (inb_scale t b)).idx j)) g)
      (⋃ q, ((pieceRect t b g q).set : Set _)) := by
  intro X Q
  unfold decodeHalf
  iintro ⟨⟨H2, H3, H8⟩, Hk⟩
  iapply (load_owns c E arg2 fullShare Wp _ _ _ Q)
  isplitl [H2]; · iexact H2
  iintro H2
  iapply ((Fills.inOrder c E arg2 arg3 arg8 Wp Sc G fun q => storePiece_fills c E arg2 arg3 arg8 harg8 v4 Wp Sc G t b g q hG) X Q)
  isplitl [H2 H3 H8]
  · isplitl [H2]; · iexact H2
    isplitl [H3]; · iexact H3
    iexact H8
  · iexact Hk

/-- A block of one column tile is filled. -/
theorem decodeBlock_fills (t : Fin 4) (b : Fin 34)
    (hG : ∀ (t : Fin 4) (b : Fin 34) (g q : Fin 2) j, G ((pieceRect t b g q).emb j) = decoded v4 Wp Sc t b g q j) :
    Fills c E arg2 arg3 arg8 Wp Sc G (decodeBlock arg2 arg3 arg8 harg8 v4 t b)
      (⋃ g, ⋃ q, ((pieceRect t b g q).set : Set _)) := by
  intro X Q
  unfold decodeBlock
  iintro ⟨⟨H2, H3, H8⟩, Hk⟩
  iapply (load_owns c E arg3 fullShare Sc _ _ _ Q)
  isplitl [H3]; · iexact H3
  iintro H3
  iapply ((Fills.inOrder c E arg2 arg3 arg8 Wp Sc G fun g => decodeHalf_fills c E arg2 arg3 arg8 harg8 v4 Wp Sc G t b g hG) X Q)
  isplitl [H2 H3 H8]
  · isplitl [H2]; · iexact H2
    isplitl [H3]; · iexact H3
    iexact H8
  · iexact Hk

end fills

/-! ## The two factors -/

/-- The decoded weight as one array: row `64 b + 32 g + 16 q + i` and column `128 t + j` is piece `(t, b, g, q)` at `(i, j)`. Only the
    first 2176 rows are meant. -/
def decodedRows (v4 : FVec F S16x128 .bf16) (Wp : S2176x256.Idx → Elt F .i8) (Sc : S34x512.Idx → Elt F .f32) : S2304x512.Idx → Elt F .bf16 :=
  fun y => decoded v4 Wp Sc ⟨(y 1).val / 128 % 4, Nat.mod_lt _ (by decide)⟩ ⟨(y 0).val / 64 % 34, Nat.mod_lt _ (by decide)⟩
    ⟨(y 0).val / 32 % 2, Nat.mod_lt _ (by decide)⟩ ⟨(y 0).val / 16 % 2, Nat.mod_lt _ (by decide)⟩
    (fun a => ⟨(![(y 0).val % 16, (y 1).val % 128] : Fin 2 → Nat) a, by fin_cases a <;> exact Nat.mod_lt _ (by decide)⟩)

theorem decodedRows_emb (v4 : FVec F S16x128 .bf16) (Wp : S2176x256.Idx → Elt F .i8) (Sc : S34x512.Idx → Elt F .f32)
    (t : Fin 4) (b : Fin 34) (g q : Fin 2) (j : (pieceRect t b g q).shape.Idx) :
    decodedRows v4 Wp Sc ((pieceRect t b g q).emb j) = decoded v4 Wp Sc t b g q j := by
  have h0 : ((pieceRect t b g q).emb j 0 : Nat) = 64 * b.val + 32 * g.val + 16 * q.val + (j 0).val :=
    (Rect.emb_apply _ _ _).trans (by show _ + 1 * _ = _; rw [Nat.one_mul]; rfl)
  have h1 : ((pieceRect t b g q).emb j 1 : Nat) = 128 * t.val + (j 1).val :=
    (Rect.emb_apply _ _ _).trans (by show _ + 1 * _ = _; rw [Nat.one_mul]; rfl)
  have l0 : (j 0).val < 16 := (j 0).isLt
  have l1 : (j 1).val < 128 := (j 1).isLt
  have := b.isLt; have := g.isLt; have := q.isLt; have := t.isLt
  unfold decodedRows
  congr 1
  · exact Fin.ext (by show _ / 128 % 4 = _; rw [h1]; omega)
  · exact Fin.ext (by show _ / 64 % 34 = _; rw [h0]; omega)
  · exact Fin.ext (by show _ / 32 % 2 = _; rw [h0]; omega)
  · exact Fin.ext (by show _ / 16 % 2 = _; rw [h0]; omega)
  · funext a
    fin_cases a
    · exact Fin.ext (by show _ % 16 = (j 0).val; rw [h0]; omega)
    · exact Fin.ext (by show _ % 128 = (j 1).val; rw [h1]; omega)

/-- All the pieces. -/
abbrev pieces : Set S2304x512.Idx := ⋃ t : Fin 4, ⋃ b : Fin 34, ⋃ g : Fin 2, ⋃ q : Fin 2, ((pieceRect t b g q).set : Set _)

/-- The pieces are the first 2176 rows. -/
theorem mem_pieces (y : S2304x512.Idx) : y ∈ pieces ↔ (y 0).val < 2176 := by
  have l0 : (y 0).val < 2304 := (y 0).isLt
  have l1 : (y 1).val < 512 := (y 1).isLt
  simp only [pieces, Set.mem_iUnion, Finset.mem_coe]
  constructor
  · rintro ⟨t, b, g, q, h⟩
    rw [← Rect.map_emb_univ] at h
    obtain ⟨j, -, rfl⟩ := Finset.mem_map.mp h
    have h0 : ((pieceRect t b g q).emb j 0 : Nat) = 64 * b.val + 32 * g.val + 16 * q.val + (j 0).val :=
      (Rect.emb_apply _ _ _).trans (by show _ + 1 * _ = _; rw [Nat.one_mul]; rfl)
    have lj : (j 0).val < 16 := (j 0).isLt
    rw [h0]; omega
  · intro h
    refine ⟨⟨(y 1).val / 128, by omega⟩, ⟨(y 0).val / 64, by omega⟩, ⟨(y 0).val / 32 % 2, by omega⟩, ⟨(y 0).val / 16 % 2, by omega⟩, ?_⟩
    rw [← Rect.map_emb_univ]
    refine Finset.mem_map.mpr ⟨fun a => ⟨(![(y 0).val % 16, (y 1).val % 128] : Fin 2 → Nat) a, by
      fin_cases a <;> exact Nat.mod_lt _ (by decide)⟩, Finset.mem_univ _, ?_⟩
    funext a
    apply Fin.ext
    rw [Rect.emb_apply]
    fin_cases a
    · show 64 * ((y 0).val / 64) + 32 * ((y 0).val / 32 % 2) + 16 * ((y 0).val / 16 % 2) + 1 * ((y 0).val % 16) = (y 0).val
      omega
    · show 128 * ((y 1).val / 128) + 1 * ((y 1).val % 128) = (y 1).val
      omega

/-- Where `lora_b` goes. -/
abbrev loraRect : Rect S2304x512 := Rect.unit (s := S2304x512) ![2176, 0] S16x512.size inb_S2304x512_S16x512_2176_0
/-- Where the zeros go. -/
abbrev zeroRect : Rect S2304x512 := Rect.unit (s := S2304x512) ![2176, 0] S128x512.size inb_S2304x512_S128x512_2176_0

/-- The right factor the body leaves, over what the buffer held: decoded rows, `lora_b`'s rows, and the rest as it was. -/
def filled (tab : S16x128.Idx → Elt F .bf16) (Wp : S2176x256.Idx → Elt F .i8) (Sc : S34x512.Idx → Elt F .f32) (lb : S16x512.Idx → Elt F .bf16)
    (X : S2304x512.Idx → Elt F .bf16) : S2304x512.Idx → Elt F .bf16 :=
  loraRect.overlay (onto pieces (decodedRows (shapeCast S16x128 tab shapeCasts_S16x128_S16x128) Wp Sc) X) (shapeCast S16x512 lb shapeCasts_S16x512_S16x512)

/-- The left factor. -/
def leftOver (x : S384x2176.Idx → Elt F .bf16) (la : S2176x16.Idx → Elt F .bf16) (X : S384x2304.Idx → Elt F .bf16) : S384x2304.Idx → Elt F .bf16 :=
  (Rect.unit (s := S384x2304) ![0, 2176] S384x128.size inb_S384x2304_S384x128_0_2176).overlay
    ((Rect.unit (s := S384x2304) ![0, 0] S384x2176.size inb_S384x2304_S384x2176_0_0).overlay X (mainPart x)) (sidePart x la)

/-- What the preparation makes of the left factor's buffer: at the first point the left factor, later nothing new. -/
def begun9 (i : grid0.Coords) (x : S384x2176.Idx → Elt F .bf16) (la : S2176x16.Idx → Elt F .bf16) (X : S384x2304.Idx → Elt F .bf16) :
    S384x2304.Idx → Elt F .bf16 := if isFirst i = 1#1 then leftOver x la X else X
/-- What it makes of the right factor's: at the first point zeros in the last rows. -/
def begun8 (i : grid0.Coords) (X : S2304x512.Idx → Elt F .bf16) : S2304x512.Idx → Elt F .bf16 :=
  if isFirst i = 1#1 then zeroRect.overlay X zeroRows else X

theorem zeros2 : (![0, 0] : Fin 2 → Nat) = fun _ => 0 := funext fun a => by fin_cases a <;> rfl

section whole
variable (c : Dev nD) (E : Set ℕ) {sp : CoreSpace} {s : Shape} {e : EltTy}

/-- Reading all of an array reads it. -/
theorem idx_whole (o : Fin s.rank → Nat) (ho : o = fun _ => 0) (h : ∀ a, o a + s.size a ≤ s.size a) (j : s.Idx) :
    (Rect.unit (s := s) o s.size h).idx j = j := by
  subst ho
  funext a
  exact Fin.ext (show 0 + 1 * (j a).val = (j a).val by omega)

/-- Replacing all of an array leaves the replacement. -/
theorem overlay_whole {α : Type} (o : Fin s.rank → Nat) (ho : o = fun _ => 0) (h : ∀ a, o a + s.size a ≤ s.size a) (X w : s.Idx → α) :
    (Rect.unit (s := s) o s.size h).overlay X w = w := by
  funext y
  have : (Rect.unit (s := s) o s.size h).emb y = y := idx_whole o ho h y
  conv_lhs => rw [← this]
  exact Rect.overlay_emb (Rect.unit (s := s) o s.size h) X w y

/-- A load of all of a memref reads its contents. -/
theorem load_all (M : Memref sig .tc sp s e) (q : PosShare TreeShare) (X : s.Idx → Elt F e) (o : Fin s.rank → Nat) (ho : o = fun _ => 0)
    (h : ∀ a, o a + s.size a ≤ s.size a) (hl : M.view.LoadsAt (Rect.unit (s := s) o s.size h).toLoadRect)
    {α : Type} (k : (s.Idx → Elt F e) → Prog (TpuEff nD τ sig (Elt F) Λ₀ .tc) α) (Q : α → sProp 𝕄) :
    iprop(owns (c : Thread nD τ) M q X
        ∗ (owns (c : Thread nD τ) M q X -∗ wp frame (wpE (defs₀ (F := F)) 𝒱₀ c none) E (k X) Q))
      ⊢ wp frame (wpE (defs₀ (F := F)) 𝒱₀ c none) E (Prog.lift (.load M (Rect.unit (s := s) o s.size h).toLoadRect hl) >>= k) Q := by
  have := load_owns (F := F) c E M q X (Rect.unit (s := s) o s.size h) hl k Q
  rwa [show (fun j => X ((Rect.unit (s := s) o s.size h).idx j)) = X from funext fun j => congrArg X (idx_whole o ho h j)] at this

/-- A store to all of a memref leaves the value stored. -/
theorem store_all (M : Memref sig .tc sp s e) (X w : s.Idx → Elt F e) (o : Fin s.rank → Nat) (ho : o = fun _ => 0)
    (h : ∀ a, o a + s.size a ≤ s.size a)
    (hx : (M.access (Rect.unit (s := s) o s.size h)).Stores Finset.univ) (hm : Finset.univ = Finset.univ ∨ ∀ a, (Rect.unit (s := s) o s.size h).stride a = 1)
    {α : Type} (k : PUnit → Prog (TpuEff nD τ sig (Elt F) Λ₀ .tc) α) (Q : α → sProp 𝕄) :
    iprop(owns (c : Thread nD τ) M fullShare X
        ∗ (owns (c : Thread nD τ) M fullShare w -∗ wp frame (wpE (defs₀ (F := F)) 𝒱₀ c none) E (k ⟨⟩) Q))
      ⊢ wp frame (wpE (defs₀ (F := F)) 𝒱₀ c none) E (Prog.lift (.store M (Rect.unit (s := s) o s.size h) w Finset.univ hx hm) >>= k) Q := by
  have := store_owns (F := F) c E M X (Rect.unit (s := s) o s.size h) w hx hm k Q
  rwa [overlay_whole o ho h X w] at this

end whole

/-! ## The body's run -/

section run
variable (c : Dev nD) (E : Set ℕ) (i : grid0.Coords)
  (arg1 : Memref sig .tc .vmem S384x2176 .bf16) (arg2 : Memref sig .tc .vmem S2176x256 .i8)
  (arg3 : Memref sig .tc .vmem S34x512 .f32) (arg4 : Memref sig .tc .vmem S2176x16 .bf16)
  (arg5 : Memref sig .tc .vmem S16x512 .bf16) (arg6 : Memref sig .tc .vmem S16x128 .bf16)
  (arg7 : Memref sig .tc .vmem S384x512 .bf16) (harg7 : arg7.IsWhole) (arg8 : Memref sig .tc .vmem S2304x512 .bf16) (harg8 : arg8.IsWhole)
  (arg9 : Memref sig .tc .vmem S384x2304 .bf16) (harg9 : arg9.IsWhole)
  (x : S384x2176.Idx → Elt F .bf16) (Wp : S2176x256.Idx → Elt F .i8) (Sc : S34x512.Idx → Elt F .f32) (la : S2176x16.Idx → Elt F .bf16)
  (lb : S16x512.Idx → Elt F .bf16) (tab : S16x128.Idx → Elt F .bf16) (Y : S384x512.Idx → Elt F .bf16)
  (X8 : S2304x512.Idx → Elt F .bf16) (X9 : S384x2304.Idx → Elt F .bf16) (Q : PUnit → sProp (MT nD τ sig Unit (Elt F) ℕ (UR sig nD τ) ℕ))

/-- The preparation. -/
theorem begin_run :
    iprop((owns (c : Thread nD τ) arg1 fullShare x ∗ owns (c : Thread nD τ) arg4 fullShare la ∗ owns (c : Thread nD τ) arg8 fullShare X8
          ∗ owns (c : Thread nD τ) arg9 fullShare X9)
        ∗ ((owns (c : Thread nD τ) arg1 fullShare x ∗ owns (c : Thread nD τ) arg4 fullShare la ∗ owns (c : Thread nD τ) arg8 fullShare (begun8 i X8)
          ∗ owns (c : Thread nD τ) arg9 fullShare (begun9 i x la X9)) -∗ Q ⟨⟩))
      ⊢ wp frame (wpE (defs₀ (F := F)) 𝒱₀ c none) E (begin i arg1 arg4 arg8 harg8 arg9 harg9) Q := by
  unfold begin begun8 begun9
  split
  · unfold prepare
    iintro ⟨⟨H1, H4, H8, H9⟩, Hk⟩
    iapply (load_all c E arg1 fullShare x _ zeros2 _ _ _ Q)
    isplitl [H1]; · iexact H1
    iintro H1
    iapply (load_all c E arg4 fullShare la _ zeros2 _ _ _ Q)
    isplitl [H4]; · iexact H4
    iintro H4
    iapply (load_owns c E arg9 fullShare X9 _ _ _ Q)
    isplitl [H9]; · iexact H9
    iintro H9
    iapply (store_owns c E arg9 X9 _ _ _ _ _ Q)
    isplitl [H9]; · iexact H9
    iintro H9
    iapply (load_owns c E arg9 fullShare _ _ _ _ Q)
    isplitl [H9]; · iexact H9
    iintro H9
    iapply (store_owns c E arg9 _ _ _ _ _ _ Q)
    isplitl [H9]; · iexact H9
    iintro H9
    iapply (load_owns c E arg8 fullShare X8 _ _ _ Q)
    isplitl [H8]; · iexact H8
    iintro H8
    iapply (store_owns c E arg8 X8 _ _ _ _ _ Q)
    isplitl [H8]; · iexact H8
    iintro H8
    iapply (le_wp_ret _ _ _ _ _)
    iapply Hk
    isplitl [H1]; · iexact H1
    isplitl [H4]; · iexact H4
    isplitl [H8]; · iexact H8
    iexact H9
  · iintro ⟨H, Hk⟩
    iapply (le_wp_ret _ _ _ _ _)
    iapply Hk
    iexact H

/-- The decoding, `lora_b`'s rows and the product. -/
theorem work_run :
    iprop((owns (c : Thread nD τ) arg2 fullShare Wp ∗ owns (c : Thread nD τ) arg3 fullShare Sc ∗ owns (c : Thread nD τ) arg5 fullShare lb
          ∗ owns (c : Thread nD τ) arg6 fullShare tab ∗ owns (c : Thread nD τ) arg7 fullShare Y ∗ owns (c : Thread nD τ) arg8 fullShare X8
          ∗ owns (c : Thread nD τ) arg9 fullShare X9)
        ∗ ((owns (c : Thread nD τ) arg2 fullShare Wp ∗ owns (c : Thread nD τ) arg3 fullShare Sc ∗ owns (c : Thread nD τ) arg5 fullShare lb
          ∗ owns (c : Thread nD τ) arg6 fullShare tab ∗ owns (c : Thread nD τ) arg7 fullShare (product X9 (filled tab Wp Sc lb X8))
          ∗ owns (c : Thread nD τ) arg8 fullShare (filled tab Wp Sc lb X8) ∗ owns (c : Thread nD τ) arg9 fullShare X9) -∗ Q ⟨⟩))
      ⊢ wp frame (wpE (defs₀ (F := F)) 𝒱₀ c none) E (work arg2 arg3 arg5 arg6 arg7 harg7 arg8 harg8 arg9) Q := by
  unfold work
  iintro ⟨⟨H2, H3, H5, H6, H7, H8, H9⟩, Hk⟩
  iapply (load_all c E arg6 fullShare tab _ zeros2 _ _ _ Q)
  isplitl [H6]; · iexact H6
  iintro H6
  rw [wp_bind]
  iapply ((Fills.inOrder c E arg2 arg3 arg8 Wp Sc (decodedRows (shapeCast S16x128 tab shapeCasts_S16x128_S16x128) Wp Sc)
    fun t => Fills.inOrder c E arg2 arg3 arg8 Wp Sc (decodedRows (shapeCast S16x128 tab shapeCasts_S16x128_S16x128) Wp Sc)
      fun b => decodeBlock_fills c E arg2 arg3 arg8 harg8 (shapeCast S16x128 tab shapeCasts_S16x128_S16x128) Wp Sc _ t b
        (decodedRows_emb _ Wp Sc)) X8 _)
  isplitl [H2 H3 H8]
  · isplitl [H2]; · iexact H2
    isplitl [H3]; · iexact H3
    iexact H8
  iintro ⟨H2, H3, H8⟩
  unfold finish
  iapply (load_all c E arg5 fullShare lb _ zeros2 _ _ _ Q)
  isplitl [H5]; · iexact H5
  iintro H5
  iapply (load_owns c E arg8 fullShare _ _ _ _ Q)
  isplitl [H8]; · iexact H8
  iintro H8
  iapply (store_owns c E arg8 _ _ _ _ _ _ Q)
  isplitl [H8]; · iexact H8
  iintro H8
  iapply (load_all c E arg9 fullShare X9 _ zeros2 _ _ _ Q)
  isplitl [H9]; · iexact H9
  iintro H9
  iapply (load_all c E arg8 fullShare _ _ zeros2 _ _ _ Q)
  isplitl [H8]; · iexact H8
  iintro H8
  iapply (load_owns c E arg7 fullShare Y _ _ _ Q)
  isplitl [H7]; · iexact H7
  iintro H7
  iapply (store_all c E arg7 Y _ _ zeros2 _ _ _ _ Q)
  isplitl [H7]; · iexact H7
  iintro H7
  iapply (le_wp_ret _ _ _ _ _)
  iapply Hk
  isplitl [H2]; · iexact H2
  isplitl [H3]; · iexact H3
  isplitl [H5]; · iexact H5
  isplitl [H6]; · iexact H6
  isplitl [H7]; · iexact H7
  isplitl [H8]; · iexact H8
  iexact H9

/-- The whole body. -/
theorem body_run :
    iprop((owns (c : Thread nD τ) arg1 fullShare x ∗ owns (c : Thread nD τ) arg2 fullShare Wp ∗ owns (c : Thread nD τ) arg3 fullShare Sc
          ∗ owns (c : Thread nD τ) arg4 fullShare la ∗ owns (c : Thread nD τ) arg5 fullShare lb
          ∗ owns (c : Thread nD τ) arg6 fullShare tab ∗ owns (c : Thread nD τ) arg7 fullShare Y ∗ owns (c : Thread nD τ) arg8 fullShare X8
          ∗ owns (c : Thread nD τ) arg9 fullShare X9)
        ∗ ((owns (c : Thread nD τ) arg1 fullShare x ∗ owns (c : Thread nD τ) arg2 fullShare Wp ∗ owns (c : Thread nD τ) arg3 fullShare Sc
          ∗ owns (c : Thread nD τ) arg4 fullShare la ∗ owns (c : Thread nD τ) arg5 fullShare lb
          ∗ owns (c : Thread nD τ) arg6 fullShare tab
          ∗ owns (c : Thread nD τ) arg7 fullShare (product (begun9 i x la X9) (filled tab Wp Sc lb (begun8 i X8)))
          ∗ owns (c : Thread nD τ) arg8 fullShare (filled tab Wp Sc lb (begun8 i X8)) ∗ owns (c : Thread nD τ) arg9 fullShare (begun9 i x la X9))
            -∗ Q ⟨⟩))
      ⊢ wp frame (wpE (defs₀ (F := F)) 𝒱₀ c none) E (body i arg1 arg2 arg3 arg4 arg5 arg6 arg7 harg7 arg8 harg8 arg9 harg9) Q := by
  unfold body
  rw [wp_bind]
  iintro ⟨⟨H1, H2, H3, H4, H5, H6, H7, H8, H9⟩, Hk⟩
  iapply (begin_run c E i arg1 arg4 arg8 harg8 arg9 harg9 x la X8 X9 _)
  isplitl [H1 H4 H8 H9]
  · isplitl [H1]; · iexact H1
    isplitl [H4]; · iexact H4
    isplitl [H8]; · iexact H8
    iexact H9
  iintro ⟨H1, H4, H8, H9⟩
  iapply (work_run c E arg2 arg3 arg5 arg6 arg7 harg7 arg8 harg8 arg9 Wp Sc lb tab Y (begun8 i X8) (begun9 i x la X9) Q)
  isplitl [H2 H3 H5 H6 H7 H8 H9]
  · isplitl [H2]; · iexact H2
    isplitl [H3]; · iexact H3
    isplitl [H5]; · iexact H5
    isplitl [H6]; · iexact H6
    isplitl [H7]; · iexact H7
    isplitl [H8]; · iexact H8
    iexact H9
  iintro ⟨H2, H3, H5, H6, H7, H8, H9⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end run

end Cert.Proof

end
-- ==== Proof.Launch.lean ====
/-
  The kernel's run on its grid of 42 points: what its buffers hold between points, and that the body keeps it. Two launches follow: one
  at any float values, which says nothing of the result (the frame), and one for float values at which a column of a product depends on no
  other column of the right factor, which names the result.
-/
module

public import proofs.«01_k».proof.Proof.Body
public import proofs.«01_k».proof.Proof.Gen.Kernel.Frame

@[expose] public section

set_option maxRecDepth 65536

noncomputable section

namespace Cert.Proof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The factors do not depend on what the buffers held -/

/-- The zero of the factors' format. -/
def z16 : Elt F .bf16 := Scalar.ofBits .bf16 0x0000#16

/-- Membership in a rectangle of rows, over all columns or from a column on. -/
theorem mem_rect2 {s : Shape} (o z : Fin s.rank → Nat) (h : ∀ a, o a + z a ≤ s.size a) (y : s.Idx) :
    y ∈ (Rect.unit (s := s) o z h).set ↔ ∀ a, o a ≤ (y a).val ∧ (y a).val < o a + z a := by
  rw [← Rect.map_emb_univ]
  constructor
  · intro hy a
    obtain ⟨j, -, rfl⟩ := Finset.mem_map.mp hy
    have : ((Rect.unit (s := s) o z h).emb j a : Nat) = o a + (j a).val := (Rect.emb_apply _ _ _).trans (by show _ + 1 * _ = _; rw [Nat.one_mul]; rfl)
    have hj : (j a).val < z a := (j a).isLt
    omega
  · intro hy
    refine Finset.mem_map.mpr ⟨fun a => ⟨(y a).val - o a, by show _ < z a; have := hy a; omega⟩, Finset.mem_univ _, ?_⟩
    funext a
    apply Fin.ext
    rw [Rect.emb_apply]
    show o a + 1 * ((y a).val - o a) = (y a).val
    have := hy a
    omega

/-- The left factor covers its buffer. -/
theorem leftOver_any (x : S384x2176.Idx → Elt F .bf16) (la : S2176x16.Idx → Elt F .bf16) (X X' : S384x2304.Idx → Elt F .bf16) :
    leftOver x la X = leftOver x la X' := by
  funext y
  have l0 : (y 0).val < 384 := (y 0).isLt
  have l1 : (y 1).val < 2304 := (y 1).isLt
  unfold leftOver
  by_cases h : y ∈ (Rect.unit (s := S384x2304) ![0, 2176] S384x128.size inb_S384x2304_S384x128_0_2176).set
  · obtain ⟨j, rfl⟩ : ∃ j, (Rect.unit (s := S384x2304) ![0, 2176] S384x128.size inb_S384x2304_S384x128_0_2176).emb j = y := by
      rw [← Rect.map_emb_univ] at h; simpa using h
    rw [Rect.overlay_emb, Rect.overlay_emb]
  · rw [Rect.overlay_of_not_mem _ _ _ h, Rect.overlay_of_not_mem _ _ _ h]
    have h' : y ∈ (Rect.unit (s := S384x2304) ![0, 0] S384x2176.size inb_S384x2304_S384x2176_0_0).set := by
      rw [mem_rect2] at h ⊢
      intro a
      fin_cases a
      · exact ⟨Nat.zero_le _, by show (y 0).val < 0 + 384; omega⟩
      · refine ⟨Nat.zero_le _, ?_⟩
        show (y 1).val < 0 + 2176
        by_contra hc
        refine h fun a => ?_
        fin_cases a
        · exact ⟨Nat.zero_le _, by show (y 0).val < 0 + 384; omega⟩
        · exact ⟨by show 2176 ≤ (y 1).val; omega, by show (y 1).val < 2176 + 128; omega⟩
    obtain ⟨j, rfl⟩ : ∃ j, (Rect.unit (s := S384x2304) ![0, 0] S384x2176.size inb_S384x2304_S384x2176_0_0).emb j = y := by
      rw [← Rect.map_emb_univ] at h'; simpa using h'
    rw [Rect.overlay_emb, Rect.overlay_emb]

/-- The left factor. -/
def leftFactor (x : S384x2176.Idx → Elt F .bf16) (la : S2176x16.Idx → Elt F .bf16) : S384x2304.Idx → Elt F .bf16 := leftOver x la fun _ => z16

/-- The right factor. -/
def rightFactor (tab : S16x128.Idx → Elt F .bf16) (Wp : S2176x256.Idx → Elt F .i8) (Sc : S34x512.Idx → Elt F .f32) (lb : S16x512.Idx → Elt F .bf16) :
    S2304x512.Idx → Elt F .bf16 := filled tab Wp Sc lb fun _ => z16

/-- The rows below `lora_b`'s are zero. -/
def LowZero (X : S2304x512.Idx → Elt F .bf16) : Prop := ∀ y : S2304x512.Idx, 2192 ≤ (y 0).val → X y = z16

theorem filled_above (tab : S16x128.Idx → Elt F .bf16) (Wp : S2176x256.Idx → Elt F .i8) (Sc : S34x512.Idx → Elt F .f32) (lb : S16x512.Idx → Elt F .bf16)
    (X : S2304x512.Idx → Elt F .bf16) (y : S2304x512.Idx) (h : 2192 ≤ (y 0).val) : filled tab Wp Sc lb X y = X y := by
  unfold filled
  rw [Rect.overlay_of_not_mem]
  · unfold onto; rw [if_neg]; rw [mem_pieces]; omega
  · rw [mem_rect2]; intro hc; have := (hc 0).2; have e : (![2176, 0] : Fin 2 → Nat) 0 + S16x512.size 0 = 2192 := rfl
    exact absurd (lt_of_lt_of_eq this e) (by omega)

/-- Over zeros in its last rows, the buffer ends as the right factor. -/
theorem filled_of_lowZero (tab : S16x128.Idx → Elt F .bf16) (Wp : S2176x256.Idx → Elt F .i8) (Sc : S34x512.Idx → Elt F .f32) (lb : S16x512.Idx → Elt F .bf16)
    (X : S2304x512.Idx → Elt F .bf16) (h : LowZero X) : filled tab Wp Sc lb X = rightFactor tab Wp Sc lb := by
  funext y
  by_cases hy : 2192 ≤ (y 0).val
  · unfold rightFactor
    rw [filled_above _ _ _ _ _ _ hy, filled_above _ _ _ _ _ _ hy, h y hy]
  · have l1 : (y 1).val < 512 := (y 1).isLt
    unfold rightFactor filled
    by_cases h' : y ∈ loraRect.set
    · obtain ⟨j, rfl⟩ : ∃ j, loraRect.emb j = y := by
        rw [← Rect.map_emb_univ] at h'; simpa using h'
      rw [Rect.overlay_emb, Rect.overlay_emb]
    · rw [Rect.overlay_of_not_mem _ _ _ h', Rect.overlay_of_not_mem _ _ _ h']
      have : y ∈ pieces := by
        rw [mem_pieces]
        by_contra hc
        refine h' ?_
        rw [mem_rect2]
        intro a
        fin_cases a
        · exact ⟨by show 2176 ≤ (y 0).val; omega, by show (y 0).val < 2176 + 16; omega⟩
        · exact ⟨Nat.zero_le _, by show (y 1).val < 0 + 512; omega⟩
      unfold onto
      rw [if_pos this, if_pos this]

theorem rightFactor_lowZero (tab : S16x128.Idx → Elt F .bf16) (Wp : S2176x256.Idx → Elt F .i8) (Sc : S34x512.Idx → Elt F .f32) (lb : S16x512.Idx → Elt F .bf16) :
    LowZero (rightFactor tab Wp Sc lb) := fun y h => by
  unfold rightFactor; rw [filled_above _ _ _ _ _ _ h]

theorem zeroed_lowZero (X : S2304x512.Idx → Elt F .bf16) : LowZero (zeroRect.overlay X (zeroRows (F := F))) := fun y h => by
  have l0 : (y 0).val < 2304 := (y 0).isLt
  have l1 : (y 1).val < 512 := (y 1).isLt
  have h' : y ∈ zeroRect.set := by
    rw [mem_rect2]; intro a
    fin_cases a
    · exact ⟨by show 2176 ≤ (y 0).val; omega, by show (y 0).val < 2176 + 128; omega⟩
    · exact ⟨Nat.zero_le _, by show (y 1).val < 0 + 512; omega⟩
  obtain ⟨j, rfl⟩ : ∃ j, zeroRect.emb j = y := by
    rw [← Rect.map_emb_univ] at h'; simpa using h'
  rw [Rect.overlay_emb]
  rfl

/-- The preparation runs at point 0 only. -/
theorem isFirst_iff : ∀ t : Fin grid0.N, isFirst (grid0.coords t) = 1#1 ↔ t.val = 0 := by decide +kernel

/-! ## The proof data -/

variable (m : (ℓ : Loc nD τ sig) → Buf (Elt F) ℓ) (ρ : Dev nD → PrngReg)

/-- `x`'s block, the same at every point. -/
def bx (c : Dev nD) (t : Fin cfg0.N) : S384x2176.Idx → Elt F .bf16 := iblk m c 0 t
/-- `lora_a`'s. -/
def ba (c : Dev nD) (t : Fin cfg0.N) : S2176x16.Idx → Elt F .bf16 := iblk m c 3 t
/-- The table's. -/
def bt (c : Dev nD) (t : Fin cfg0.N) : S16x128.Idx → Elt F .bf16 := iblk m c 5 t
/-- The block of bytes, filled out past the array's edge with `d`. -/
def bw (c : Dev nD) (t : Fin cfg0.N) (d : S2176x256.Idx → Elt F .i8) : S2176x256.Idx → Elt F .i8 := win0_1.fill (grid0.coords t) d (iblk m c 1 t)
/-- The block of scales likewise. -/
def bs (c : Dev nD) (t : Fin cfg0.N) (d : S34x512.Idx → Elt F .f32) : S34x512.Idx → Elt F .f32 := win0_2.fill (grid0.coords t) d (iblk m c 2 t)
/-- `lora_b`'s likewise. -/
def bb (c : Dev nD) (t : Fin cfg0.N) (d : S16x512.Idx → Elt F .bf16) : S16x512.Idx → Elt F .bf16 := win0_4.fill (grid0.coords t) d (iblk m c 4 t)

/-- The result's block, by what lies past the edges. -/
def bo (c : Dev nD) (t : Fin cfg0.N) (d1 : S2176x256.Idx → Elt F .i8) (d2 : S34x512.Idx → Elt F .f32) (d4 : S16x512.Idx → Elt F .bf16) :
    S384x512.Idx → Elt F .bf16 :=
  product (leftFactor (bx m c t) (ba m c t)) (rightFactor (bt m c t) (bw m c t d1) (bs m c t d2) (bb m c t d4))

/-- The point before which the invariant is read, or the last. -/
def at0 : Fin cfg0.N := ⟨0, by decide⟩

/-- Between points: after the first, the left factor is in its buffer and the right factor's last rows are zero. -/
def inv (c : Dev nD) (n : Nat) : sProp 𝕄 :=
  iprop(∃ (X8 : S2304x512.Idx → Elt F .bf16) (X9 : S384x2304.Idx → Elt F .bf16),
    ⌜n ≠ 0 → LowZero X8 ∧ X9 = leftFactor (bx m c at0) (ba m c at0)⌝
      ∗ owns (c : Thread nD τ) (Memref.whole cc0_scratch0) fullShare X8 ∗ owns (c : Thread nD τ) (Memref.whole cc0_scratch1) fullShare X9
      ∗ ∃ r, prngReg c r)

/-- The proof data: the arrays as the region finds them; after the body the inputs' blocks and the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bw m c t (fun _ => (0#8 : BitVec 8))
    | ⟨2, _⟩ => bs m c t (fun _ => Scalar.ofBits .f32 0#32)
    | ⟨3, _⟩ => iblk m c 3 t
    | ⟨4, _⟩ => bb m c t (fun _ => z16)
    | ⟨5, _⟩ => iblk m c 5 t
    | ⟨6, _⟩ => bo m c t (fun _ => (0#8 : BitVec 8)) (fun _ => Scalar.ofBits .f32 0#32) (fun _ => z16)
  Φ t := inv m c t.val
  q _ := fullShare
  owed _ := 0

theorem before_0 (c : Dev nD) (t : Fin cfg0.N) (d) : (dats m 0 c).before 0 t d = iblk m c 0 t :=
  before0_0_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_1 (c : Dev nD) (t : Fin cfg0.N) (d) : (dats m 0 c).before 1 t d = bw m c t d := by
  unfold Dat.before; rw [if_pos (fetch0_1 t)]; rfl
theorem before_2 (c : Dev nD) (t : Fin cfg0.N) (d) : (dats m 0 c).before 2 t d = bs m c t d := by
  unfold Dat.before; rw [if_pos (fetch0_2 t)]; rfl
theorem before_4 (c : Dev nD) (t : Fin cfg0.N) (d) : (dats m 0 c).before 4 t d = bb m c t d := by
  unfold Dat.before; rw [if_pos (fetch0_4 t)]; rfl

/-- `x`'s and `lora_a`'s blocks are the same at every point. -/
theorem bx_eq (c : Dev nD) (t : Fin cfg0.N) : bx m c t = bx m c at0 := rfl
theorem ba_eq (c : Dev nD) (t : Fin cfg0.N) : ba m c t = ba m c at0 := rfl

/-! ## One point -/

variable (c : Dev nD) (t : Fin cfg0.N)

/-- The body at a point, from the staging buffers as the pipeline fills them. -/
theorem point_run (d1 : S2176x256.Idx → Elt F .i8) (d2 : S34x512.Idx → Elt F .f32) (d4 : S16x512.Idx → Elt F .bf16) (Y : S384x512.Idx → Elt F .bf16)
    (Q : PUnit → sProp 𝕄) :
    iprop((inv m c t.val ∗ owns (c : Thread nD τ) (st0_0 t) fullShare (bx m c t) ∗ owns (c : Thread nD τ) (st0_1 t) fullShare (bw m c t d1)
          ∗ owns (c : Thread nD τ) (st0_2 t) fullShare (bs m c t d2) ∗ owns (c : Thread nD τ) (st0_3 t) fullShare (ba m c t)
          ∗ owns (c : Thread nD τ) (st0_4 t) fullShare (bb m c t d4) ∗ owns (c : Thread nD τ) (st0_5 t) fullShare (bt m c t)
          ∗ owns (c : Thread nD τ) (st0_6 t) fullShare Y)
        ∗ ((inv m c (t.val + 1) ∗ owns (c : Thread nD τ) (st0_0 t) fullShare (bx m c t) ∗ owns (c : Thread nD τ) (st0_1 t) fullShare (bw m c t d1)
          ∗ owns (c : Thread nD τ) (st0_2 t) fullShare (bs m c t d2) ∗ owns (c : Thread nD τ) (st0_3 t) fullShare (ba m c t)
          ∗ owns (c : Thread nD τ) (st0_4 t) fullShare (bb m c t d4) ∗ owns (c : Thread nD τ) (st0_5 t) fullShare (bt m c t)
          ∗ owns (c : Thread nD τ) (st0_6 t) fullShare (bo m c t d1 d2 d4)) -∗ Q ⟨⟩))
      ⊢ wp frame (wpE (defs₀ (F := F)) 𝒱₀ c none) Set.univ (bodyAt0 t) Q := by
  unfold bodyAt0
  rw [cc0_qlora_eq]
  unfold inv
  iintro ⟨⟨⟨%X8, %X9, %hX, S8, S9, Hr⟩, H0, H1, H2, H3, H4, H5, H6⟩, Hk⟩
  have e9 : begun9 (grid0.coords t) (bx m c t) (ba m c t) X9 = leftFactor (bx m c t) (ba m c t) := by
    unfold begun9
    split
    · exact leftOver_any _ _ _ _
    · rename_i h; exact (hX fun h0 => h ((isFirst_iff t).mpr h0)).2
  have e8 : filled (bt m c t) (bw m c t d1) (bs m c t d2) (bb m c t d4) (begun8 (grid0.coords t) X8)
      = rightFactor (bt m c t) (bw m c t d1) (bs m c t d2) (bb m c t d4) := by
    apply filled_of_lowZero
    unfold begun8
    split
    · exact zeroed_lowZero _
    · rename_i h; exact (hX fun h0 => h ((isFirst_iff t).mpr h0)).1
  iapply (body_run c Set.univ (grid0.coords t) (st0_0 t) (st0_1 t) (st0_2 t) (st0_3 t) (st0_4 t) (st0_5 t) (st0_6 t)
    (hstage0_6 ((cfg0.slots t 6).cast nbuf0_6)) (Memref.whole cc0_scratch0) (Memref.isWhole_whole _) (Memref.whole cc0_scratch1)
    (Memref.isWhole_whole _) (bx m c t) (bw m c t d1) (bs m c t d2) (ba m c t) (bb m c t d4) (bt m c t) Y X8 X9 Q)
  isplitl [S8 S9 H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S8]; · iexact S8
    iexact S9
  rw [e8, e9]
  iintro ⟨H0, H1, H2, H3, H4, H5, H6, S8, S9⟩
  iapply Hk
  isplitl [S8 S9 Hr]
  · iexists rightFactor (bt m c t) (bw m c t d1) (bs m c t d2) (bb m c t d4), leftFactor (bx m c t) (ba m c t)
    isplitr
    · ipureintro; exact fun _ => ⟨rightFactor_lowZero _ _ _ _, rfl⟩
    isplitl [S8]; · iexact S8
    isplitl [S9]; · iexact S9
    iexact Hr
  isplitl [H0]; · iexact H0
  isplitl [H1]; · iexact H1
  isplitl [H2]; · iexact H2
  isplitl [H3]; · iexact H3
  isplitl [H4]; · iexact H4
  isplitl [H5]; · iexact H5
  iexact H6

/-- A clipped input's buffer as the pipeline takes it back: its block, filled out with what it held. -/
theorem back_1 (d : S2176x256.Idx → Elt F .i8) :
    (cfg0.win 1).fill (cfg0.grid.coords t) d ((cfg0.win 1).cut (cfg0.grid.coords t) ((dats m 0 c).after 1 t)) = bw m c t d :=
  congrArg ((cfg0.win 1).fill (cfg0.grid.coords t) d) ((cfg0.win 1).cut_fill (cfg0.grid.coords t) (fun _ => (0#8 : BitVec 8)) (iblk m c 1 t))
theorem back_2 (d : S34x512.Idx → Elt F .f32) :
    (cfg0.win 2).fill (cfg0.grid.coords t) d ((cfg0.win 2).cut (cfg0.grid.coords t) ((dats m 0 c).after 2 t)) = bs m c t d :=
  congrArg ((cfg0.win 2).fill (cfg0.grid.coords t) d) ((cfg0.win 2).cut_fill (cfg0.grid.coords t) (fun _ => Scalar.ofBits .f32 0#32) (iblk m c 2 t))
theorem back_4 (d : S16x512.Idx → Elt F .bf16) :
    (cfg0.win 4).fill (cfg0.grid.coords t) d ((cfg0.win 4).cut (cfg0.grid.coords t) ((dats m 0 c).after 4 t)) = bb m c t d :=
  congrArg ((cfg0.win 4).fill (cfg0.grid.coords t) d) ((cfg0.win 4).cut_fill (cfg0.grid.coords t) (fun _ => z16) (iblk m c 4 t))

/-- The window of the result, of which the first launch says nothing. -/
def fgt (w : Fin cfg0.W) : Bool := match w with
  | ⟨0, _⟩ => false | ⟨1, _⟩ => false | ⟨2, _⟩ => false | ⟨3, _⟩ => false | ⟨4, _⟩ => false | ⟨5, _⟩ => false | ⟨6, _⟩ => true

/-- The body keeps everything but the result, whatever float values are. -/
theorem keeps (c : Dev nD) : BodyObligationLoose (dats m 0 c) (defs₀ (F := F)) 𝒱₀ () Set.univ fgt := fun t => by
  rw [bigSep_W0, bigSep_W0]
  simp only [fgt]
  rw [show (dats m 0 c).Φ t.succ = inv m c (t.val + 1) from rfl, show (dats m 0 c).Φ t.castSucc = inv m c t.val from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y, H6⟩⟩
  rw [before_0 m c t d0, before_1 m c t d1, before_2 m c t d2, before_3 m c t d3, before_4 m c t d4, before_5 m c t d5]
  iapply (point_run m c t d1 d2 d4 Y _)
  isplitl [HΦ H0 H1 H2 H3 H4 H5 H6]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    iexact H6
  iintro ⟨HΦ, H0, H1, H2, H3, H4, H5, H6⟩
  isplitl [HΦ]; · iexact HΦ
  isplitl [Ho]; · iexact Ho
  isplitl [H0]; · iexact H0
  isplitl [H1]
  · iexists d1
    rw [back_1 m c t d1]; iexact H1
  isplitl [H2]
  · iexists d2
    rw [back_2 m c t d2]; iexact H2
  isplitl [H3]; · iexact H3
  isplitl [H4]
  · iexists d4
    rw [back_4 m c t d4]; iexact H4
  isplitl [H5]; · iexact H5
  iexists bo m c t d1 d2 d4
  iexact H6

/-- The body keeps everything, and leaves the result's block, where a column of a product depends on that column of the right factor only. -/
theorem keeps_exact (c : Dev nD)
    (hcol : ∀ t d1 d2 d4, win0_6.cut (grid0.coords t) (bo m c t d1 d2 d4)
      = win0_6.cut (grid0.coords t) (bo m c t (fun _ => (0#8 : BitVec 8)) (fun _ => Scalar.ofBits .f32 0#32) (fun _ => z16))) :
    BodyObligationLoose (dats m 0 c) (defs₀ (F := F)) 𝒱₀ () Set.univ := fun t => by
  rw [bigSep_W0, bigSep_W0]
  simp only
  rw [show (dats m 0 c).Φ t.succ = inv m c (t.val + 1) from rfl, show (dats m 0 c).Φ t.castSucc = inv m c t.val from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%Y, H6⟩⟩
  rw [before_0 m c t d0, before_1 m c t d1, before_2 m c t d2, before_3 m c t d3, before_4 m c t d4, before_5 m c t d5]
  iapply (point_run m c t d1 d2 d4 ((dats m 0 c).before 6 t Y) _)
  isplitl [HΦ H0 H1 H2 H3 H4 H5 H6]
  · isplitl [HΦ]; · iexact HΦ
    isplitl [H0]; · iexact H0
    isplitl [H1]; · iexact H1
    isplitl [H2]; · iexact H2
    isplitl [H3]; · iexact H3
    isplitl [H4]; · iexact H4
    isplitl [H5]; · iexact H5
    iexact H6
  iintro ⟨HΦ, H0, H1, H2, H3, H4, H5, H6⟩
  isplitl [HΦ]; · iexact HΦ
  isplitl [Ho]; · iexact Ho
  isplitl [H0]; · iexact H0
  isplitl [H1]
  · iexists d1
    rw [back_1 m c t d1]; iexact H1
  isplitl [H2]
  · iexists d2
    rw [back_2 m c t d2]; iexact H2
  isplitl [H3]; · iexact H3
  isplitl [H4]
  · iexists d4
    rw [back_4 m c t d4]; iexact H4
  isplitl [H5]; · iexact H5
  iexists bo m c t d1 d2 d4
  change _ ⊢ owns (c : Thread nD τ) (st0_6 t) fullShare (win0_6.fill (grid0.coords t) (bo m c t d1 d2 d4) (win0_6.cut (grid0.coords t)
    (bo m c t (fun _ => (0#8 : BitVec 8)) (fun _ => Scalar.ofBits .f32 0#32) (fun _ => z16))))
  rw [← hcol t d1 d2 d4, Window.fill_cut]

/-! ## The two launches -/

/-- At the first point nothing is known of the buffers. -/
theorem inv_in (c : Dev nD) : Pipeline.ΦA spec0 c ⊢ inv m c 0 := by
  unfold Pipeline.ΦA
  rw [scopedRest0_eq]
  unfold inv
  iintro ⟨⟨⟨%f8, H8⟩, ⟨%f9, H9⟩⟩, Hr⟩
  iexists f8, f9
  isplitr
  · ipureintro; exact fun h => absurd rfl h
  isplitl [H8]; · rw [owns_whole]; iexact H8
  isplitl [H9]; · rw [owns_whole]; iexact H9
  iexact Hr

/-- After the last, what they hold is not asked. -/
theorem inv_out (c : Dev nD) (n : Nat) : inv m c n ⊢ Pipeline.ΦA spec0 c := by
  unfold Pipeline.ΦA
  rw [scopedRest0_eq]
  unfold inv
  simp only [owns_whole]
  iintro ⟨%f8, %f9, -, H8, H9, Hr⟩
  isplitr [Hr]
  · isplitl [H8]
    · iexists f8; iexact H8
    · iexists f9; iexact H9
  iexact Hr

/-- The host's last line writes the result's buffer and no other. -/
theorem tail_writes : ∀ ops ∈ ([hostOps1] : List (List (HloOp τ sig (Elt F)))), ∀ op ∈ ops, ∀ b : Ref sig .tc,
    Proc.devRef .tc b ∈ op.writes → b ∈ ({main_v4} : Finset (Ref sig .tc)) := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  rw [Finset.mem_singleton]
  by_contra hne
  exact absurd hb (StableHlo.devRef_ne_of_ne hne)

set_option backward.isDefEq.respectTransparency.types false in
/-- The kernel runs, at any float values: it ends, its arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_frame_around_T_track_forget cfgs (dats m) (0 : Fin 1) launch0 defs₀ 𝒱₀ fgt ({main_v4} : Finset (Ref sig .tc)) m ρ main
    (hbody := fun c => keeps m c) (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hin := fun c => inv_in m c) (hout := fun c => inv_out m c _)
    (Q' := _)
    (hQ' := fun r h => ⟨fun c =>
      ⟨((h.1 c).2 main_arg0 (by decide)).trans (V_main_arg0 m c),
       (Pipeline.RDat.FramePostR.arr_in h.1 c 1 rfl).trans (V_main_arg1 m c),
       (Pipeline.RDat.FramePostR.arr_in h.1 c 2 rfl).trans (V_main_arg2 m c),
       (Pipeline.RDat.FramePostR.arr_in h.1 c 3 rfl).trans (V_main_arg3 m c),
       (Pipeline.RDat.FramePostR.arr_in h.1 c 4 rfl).trans (V_main_arg4 m c)⟩, h.2⟩)

set_option backward.isDefEq.respectTransparency.types false in
/-- The kernel's run where the result can be named: the arrays as the pipeline's write-backs leave them, the buffers of the lines after it
    as those lines compute them. -/
theorem run_exact
    (hcol : ∀ c t d1 d2 d4, win0_6.cut (grid0.coords t) (bo m c t d1 d2 d4)
      = win0_6.cut (grid0.coords t) (bo m c t (fun _ => (0#8 : BitVec 8)) (fun _ => Scalar.ofBits .f32 0#32) (fun _ => z16))) :
    θ_run defs (onTc (τ := τ) (main (F := F))) ⟨m, fun _ => 0, ρ⟩
      (Pipeline.FramePost cfgs (dats m) 0 (Pipeline.afterTail₀ cfgs (dats m) 0 (V0 m) [hostOps1])) :=
  Pipeline.θ_run_frame_around_track cfgs (dats m) (0 : Fin 1) launch0 defs₀ 𝒱₀ m ρ main
    (hbody := fun c => keeps_exact m c (hcol c)) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl) (hin := fun c => inv_in m c) (hout := fun c => inv_out m c _)

end Cert.Proof

end
-- ==== Proof.Same.lean ====
/-
  The kernel as printed and its idealization are one program text, printed twice: with no operation rewritten the two agree, name by
  name, over every float type. So what is proved of the one holds of the other.
-/
module

public import proofs.«01_k».proof.Proof.Gen.Kernel
public import proofs.«01_k».proof.Proof.Gen.KernelIdeal
public import Idealize.ShloMosaic.Lib.Tactic

@[expose] public section

set_option maxRecDepth 65536

noncomputable section

namespace Cert.Proof

open Idealize.ShloMosaic Idealize.ShloMosaic.Tactic Idealize.SL.Sem

variable {F : FTy → Type} [FloatOps F]

set_option maxHeartbeats 0 in
/-- The idealized kernel's table of bodies is the kernel's. -/
theorem defs_same : (Cert.KernelIdeal.defs (F := F)) = (Cert.Kernel.defs (F := F)) := by
  sl_kernel_rfl

set_option maxHeartbeats 0 in
/-- The idealized kernel's host program is the kernel's. -/
theorem main_same : (Cert.KernelIdeal.main (F := F)) = (Cert.Kernel.main (F := F)) := by
  sl_kernel_rfl

end Cert.Proof

end
-- ==== Proof.Decode.lean ====
/-
  The decoded weight, element by element: which four bits of which byte each element takes, and what it makes of them.
-/
module

public import proofs.«01_k».proof.Proof.Launch
public import Idealize.ShloMosaic.Lib.BitcastFour
public import Idealize.ShloMosaic.Lib.ValueIdxCore
public import Idealize.ShloMosaic.Lib.Pipeline.Value

@[expose] public section

set_option maxRecDepth 65536

noncomputable section

namespace Cert.Proof

open Cert.Kernel Cert.Kernel.Gen
open Idealize.ShloMosaic Idealize.ShloMosaic.ValueIdx

variable {F : FTy → Type} [FloatOps F]

/-! ## The codes -/

/-- The low four bits of a byte (`o` is 0) or its high four (`o` is 1). -/
def nib (b : BitVec 8) (o : Nat) : BitVec 8 := (b >>> (4 * o)) &&& 15#8

theorem nib_getLsbD (b : BitVec 8) (o i : Nat) (hi : i < 8) : (nib b o).getLsbD i = (b.getLsbD (4 * o + i) && decide (i < 4)) := by
  have h15 : (15#8 : BitVec 8).getLsbD i = decide (i < 4) := by interval_cases i <;> rfl
  unfold nib
  rw [BitVec.getLsbD_and, BitVec.getLsbD_ushiftRight, h15]

theorem nib_lt (b : BitVec 8) (o : Nat) : (nib b o).toNat < 16 := by
  unfold nib
  rw [BitVec.toNat_and]
  exact lt_of_le_of_lt Nat.and_le_right (by decide)

/-- A code widened with its sign, twice, is the code. -/
theorem nib_wide (b : BitVec 8) (o : Nat) : (((nib b o).signExtend 16).signExtend 32).toNat = (nib b o).toNat := by
  have h := nib_lt b o
  have hm : (nib b o).msb = false := by rw [BitVec.msb_eq_false_iff_two_mul_lt]; omega
  rw [BitVec.signExtend_eq_setWidth_of_msb_false hm]
  have hm' : ((nib b o).setWidth 16).msb = false := by
    rw [BitVec.msb_eq_false_iff_two_mul_lt, BitVec.toNat_setWidth, Nat.mod_eq_of_lt (by omega)]; omega
  rw [BitVec.signExtend_eq_setWidth_of_msb_false hm', BitVec.toNat_setWidth, BitVec.toNat_setWidth, Nat.mod_eq_of_lt (by omega), Nat.mod_eq_of_lt (by omega)]

theorem lane_apply (R : Fin 8) (l : Fin 128) : lane (ValueIdx.ix2 R l) = BitVec.ofNat 32 l.val := by
  unfold lane iota
  congr 1
  show 0 * _ + l.val = l.val
  omega

theorem shift_word : ∀ l : Fin 128, IntOp.muli (IntOp.andi (BitVec.ofNat 32 l.val) 1#32) 4#32 = BitVec.ofNat 32 (4 * (l.val % 2)) := by decide +kernel
theorem src_word : ∀ (c : Fin 4) (l : Fin 128),
    (IntOp.addi (IntOp.shrsi .vector (BitVec.ofNat 32 l.val) 1#32) (BitVec.ofNat 32 (c.val % 2 * 64))).toNat % 128 = l.val / 2 + c.val % 2 * 64 := by decide +kernel

theorem shift_apply (R : Fin 8) (l : Fin 128) : shift (ValueIdx.ix2 R l) = BitVec.ofNat 32 (4 * (l.val % 2)) := by
  show IntOp.muli (IntOp.andi (lane (ValueIdx.ix2 R l)) 1#32) 4#32 = _
  rw [lane_apply, shift_word]
theorem src_apply (c : Fin 4) (R : Fin 8) (l : Fin 128) : (src c (ValueIdx.ix2 R l)).toNat % 128 = l.val / 2 + c.val % 2 * 64 := by
  show (IntOp.addi (IntOp.shrsi .vector (lane (ValueIdx.ix2 R l)) 1#32) (BitVec.ofNat 32 (c.val % 2 * 64))).toNat % 128 = _
  rw [lane_apply, src_word]

/-- The lane of the bytes that lane `l` of column tile `c` reads. -/
def srcLane (c : Fin 4) (l : Fin 128) : Fin 128 := ⟨l.val / 2 + c.val % 2 * 64, by have := l.isLt; omega⟩

/-- The words of codes. -/
def codeWords (c : Fin 4) (v : IVec S32x128 8) : IVec S8x128 32 :=
  andi (shrsi (dynamicGather 1 (bitcast S8x128 32 v bitcasts_S32x128_w8_S8x128_w32)
    (shapeCast S8x128 (shapeCast S8x128x1 (src c) shapeCasts_S8x128_S8x128x1) shapeCasts_S8x128x1_S8x128)) shift)
    (broadcast S8x128 252645135#32)

theorem mask_bit : ∀ i : Fin 32, (252645135#32 : BitVec 32).getLsbD i.val = decide (i.val % 8 < 4) := by decide +kernel

theorem codeWords_apply (c : Fin 4) (v : IVec S32x128 8) (R : Fin 8) (l : Fin 128) :
    codeWords c v (ValueIdx.ix2 R l)
      = (bitcast S8x128 32 v bitcasts_S32x128_w8_S8x128_w32 (ValueIdx.ix2 R (srcLane c l))).sshiftRight (4 * (l.val % 2)) &&& 252645135#32 := by
  have hg : dynamicGather 1 (bitcast S8x128 32 v bitcasts_S32x128_w8_S8x128_w32)
      (shapeCast S8x128 (shapeCast S8x128x1 (src c) shapeCasts_S8x128_S8x128x1) shapeCasts_S8x128x1_S8x128) (ValueIdx.ix2 R l)
      = bitcast S8x128 32 v bitcasts_S32x128_w8_S8x128_w32 (ValueIdx.ix2 R (srcLane c l)) := by
    rw [shapeCast_shapeCast]
    refine congrArg (bitcast S8x128 32 v bitcasts_S32x128_w8_S8x128_w32) (funext fun b => ?_)
    match b with
    | ⟨0, _⟩ => rfl
    | ⟨1, _⟩ => exact Fin.ext (src_apply c R l)
  have hs := shift_apply R l
  show IntOp.andi (IntOp.shrsi .vector (dynamicGather 1 (bitcast S8x128 32 v bitcasts_S32x128_w8_S8x128_w32)
      (shapeCast S8x128 (shapeCast S8x128x1 (src c) shapeCasts_S8x128_S8x128x1) shapeCasts_S8x128x1_S8x128) (ValueIdx.ix2 R l)) (shift (ValueIdx.ix2 R l))) 252645135#32 = _
  rw [hg, hs]
  have h2 : (BitVec.ofNat 32 (4 * (l.val % 2))).toNat = 4 * (l.val % 2) := by
    rw [BitVec.toNat_ofNat, Nat.mod_eq_of_lt (by omega)]
  unfold IntOp.andi IntOp.shrsi
  rw [if_pos (by rw [h2]; omega)]
  unfold BitVec.sshiftRight'
  rw [h2]

/-- Byte `r` of the codes' words is the four bits of byte `r` of the source lane. -/
theorem codeByte (c : Fin 4) (v : IVec S32x128 8) (r : Fin 32) (l : Fin 128) :
    bitcast S32x128 8 (codeWords c v) bitcasts_S8x128_w32_S32x128_w8 (ValueIdx.ix2 r l) = nib (v (ValueIdx.ix2 r (srcLane c l))) (l.val % 2) := by
  apply BitVec.eq_of_getLsbD_eq
  intro i hi
  have lr := r.isLt
  rw [nib_getLsbD _ _ _ hi, bitcast_getLsbD _ _ _ i hi (by decide)]
  have hrow : Shape.row (s := S32x128) (ValueIdx.ix2 r l) = r.val := rfl
  have hidx : bitcasts_S8x128_w32_S32x128_w8.srcIdx (ValueIdx.ix2 r l) ((Shape.row (s := S32x128) (ValueIdx.ix2 r l) * 8 + i) / 32)
      (fun a ha => (Nat.div_lt_iff_lt_mul (by decide)).2 (bitcasts_S8x128_w32_S32x128_w8.pos_lt (ValueIdx.ix2 r l) i hi a ha))
      = ValueIdx.ix2 (⟨r.val / 4, by omega⟩ : Fin 8) l := by
    funext a
    match a with
    | ⟨0, _⟩ => exact Fin.ext ((bitcasts_S8x128_w32_S32x128_w8.srcIdx_row _ _ _ ⟨0, Nat.zero_lt_two⟩ rfl).trans (by rw [hrow]; show _ = r.val / 4; omega))
    | ⟨1, _⟩ => exact Fin.ext (bitcasts_S8x128_w32_S32x128_w8.srcIdx_other _ _ _ ⟨1, Nat.one_lt_two⟩ (by decide))
  rw [hidx, codeWords_apply, hrow]
  have hb : (r.val * 8 + i) % 32 = 8 * (r.val % 4) + i := by omega
  rw [hb, BitVec.getLsbD_and, mask_bit ⟨8 * (r.val % 4) + i, by omega⟩]
  have hm : (8 * (r.val % 4) + i) % 8 = i := by omega
  simp only [hm]
  by_cases h4 : i < 4
  · rw [BitVec.getLsbD_sshiftRight, if_pos (show 4 * (l.val % 2) + (8 * (r.val % 4) + i) < 32 by omega)]
    rw [bitcast_8_32_getLsbD_ix2 v bitcasts_S32x128_w8_S8x128_w32 _ _ _ (by omega) r (by show _ = 4 * (r.val / 4) + _; omega)]
    have e : (4 * (l.val % 2) + (8 * (r.val % 4) + i)) % 8 = 4 * (l.val % 2) + i := by omega
    rw [e]
    have : ¬ 32 ≤ 8 * (r.val % 4) + i := by omega
    simp [h4, this]
  · simp [h4]

/-- The code at row `r` and lane `l`. -/
theorem codes_apply (c : Fin 4) (v : IVec S32x128 8) (r : Fin 32) (l : Fin 128) :
    codes c v (ValueIdx.ix2 r l) = (nib (v (ValueIdx.ix2 r (srcLane c l))) (l.val % 2)).signExtend 16 := by
  rw [← codeByte]
  rfl

/-! ## A piece -/

/-- The code as an index of the table. -/
def nibFin (b : BitVec 8) (o : Nat) : Fin 16 := ⟨(nib b o).toNat, nib_lt b o⟩

theorem piece_apply (v4 : FVec F S16x128 .bf16) (c : Fin 4) (v14 : Vec F S1x128 .f32) (v : IVec S32x128 8) (q : Fin 2) (r : Fin 16) (l : Fin 128) :
    piece v4 c v14 v q (ValueIdx.ix2 r l) = FloatOps.mulf (v4 (ValueIdx.ix2 (nibFin (v (ValueIdx.ix2 (⟨16 * q.val + r.val, by omega⟩ : Fin 32) (srcLane c l))) (l.val % 2)) l))
      (FloatOps.truncf .bf16 bitsLt_bf16_f32 (v14 (ValueIdx.ix2 (0 : Fin 1) l))) := by
  unfold piece
  rw [shapeCast_self, shapeCast_shapeCast]
  have hi : ((extsi 32 (extractStridedSlice S16x128 ![16 * q.val, 0] (codes c v) (slices_half q)) natLt_16_32 : IVec S16x128 32) (ValueIdx.ix2 r l)).toNat
      = (nib (v (ValueIdx.ix2 (⟨16 * q.val + r.val, by omega⟩ : Fin 32) (srcLane c l))) (l.val % 2)).toNat := by
    rw [← nib_wide, ← codes_apply]
    have : extractStridedSlice S16x128 ![16 * q.val, 0] (codes c v) (slices_half q) (ValueIdx.ix2 r l) = codes c v (ValueIdx.ix2 (⟨16 * q.val + r.val, by omega⟩ : Fin 32) l) := by
      unfold extractStridedSlice
      refine congrArg (codes c v) (funext fun a => ?_)
      match a with
      | ⟨0, _⟩ => rfl
      | ⟨1, _⟩ => exact Fin.ext (Nat.zero_add _)
    rw [← this]
    rfl
  show scaled v4 v14 _ = _
  have hj : (fun b : Fin S16x128.rank => if b = 0 then (⟨((extsi 32 (extractStridedSlice S16x128 ![16 * q.val, 0] (codes c v) (slices_half q)) natLt_16_32 : IVec S16x128 32) (ValueIdx.ix2 r l)).toNat % S16x128.size b,
        Nat.mod_lt _ (Fin.pos ((ValueIdx.ix2 r l : S16x128.Idx) b))⟩ : Fin (S16x128.size b)) else (ValueIdx.ix2 r l : S16x128.Idx) b)
      = (ValueIdx.ix2 (nibFin (v (ValueIdx.ix2 (⟨16 * q.val + r.val, by omega⟩ : Fin 32) (srcLane c l))) (l.val % 2)) l : S16x128.Idx) := by
    funext b
    match b with
    | ⟨0, _⟩ =>
      refine Fin.ext ?_
      show _ % 16 = _
      rw [hi, Nat.mod_eq_of_lt (nib_lt _ _)]
      rfl
    | ⟨1, _⟩ => rfl
  refine (congrArg (scaled v4 v14) hj).trans ?_
  unfold scaled
  show FloatOps.mulf _ (broadcastTo S16x128 (truncf .bf16 v14 bitsLt_bf16_f32) broadcasts_S1x128_S16x128 _) = _
  refine congrArg (FloatOps.mulf _) ?_
  rw [broadcastTo_apply _ _ _ (ValueIdx.ix2 (0 : Fin 1) l) (fun a => ?_)]
  · rfl
  · match a with
    | ⟨0, _⟩ => rfl
    | ⟨1, _⟩ => rfl

end Cert.Proof

end
-- ==== Proof.Product.lean ====
/-
  The two factors element by element, and their product over the extended reals: the weight's part and the side product's part.
-/
module

public import proofs.«01_k».proof.Proof.Decode
public import Idealize.ShloMosaic.Lib.MatmulPlain
public import Idealize.ShloMosaic.Lib.IdealHost
public import Idealize.ShloMosaic.Lib.ValueIdx
public import Idealize.ShloMosaic.Lib.Pointwise

@[expose] public section

set_option maxRecDepth 65536

noncomputable section

namespace Cert.Proof

open Cert.Kernel Cert.Kernel.Gen
open Idealize.ShloMosaic
open scoped BigOperators

section factors
variable {F : FTy → Type} [FloatOps F]

/-! ## The right factor -/

/-- An index is its coordinates. -/
theorem idx2_eq {n0 n1 : Nat} (y : (⟨2, ![n0, n1]⟩ : Shape).Idx) (a : Fin n0) (b : Fin n1) (h0 : (y 0).val = a.val) (h1 : (y 1).val = b.val) :
    y = ValueIdx.ix2 a b := by
  funext c
  match c with
  | ⟨0, _⟩ => exact Fin.ext h0
  | ⟨1, _⟩ => exact Fin.ext h1

/-- The weight's element at row `k` and column `n`: the table's level of the column's four bits, times the scale of the row's block. -/
def weight (tab : S16x128.Idx → Elt F .bf16) (Wp : S2176x256.Idx → Elt F .i8) (Sc : S34x512.Idx → Elt F .f32) (k : Fin 2176) (n : Fin 512) : F .bf16 :=
  FloatOps.mulf (tab (ValueIdx.ix2 (nibFin (Wp (ValueIdx.ix2 k (⟨n.val / 2, by omega⟩ : Fin 256))) (n.val % 2)) (⟨n.val % 128, by omega⟩ : Fin 128)))
    (FloatOps.truncf .bf16 bitsLt_bf16_f32 (Sc (ValueIdx.ix2 (⟨k.val / 64, by omega⟩ : Fin 34) n)))

theorem decodedRows_apply (tab : FVec F S16x128 .bf16) (Wp : S2176x256.Idx → Elt F .i8) (Sc : S34x512.Idx → Elt F .f32) (y : S2304x512.Idx)
    (k : Fin 2176) (n : Fin 512) (h0 : (y 0).val = k.val) (h1 : (y 1).val = n.val) :
    decodedRows (shapeCast S16x128 tab shapeCasts_S16x128_S16x128) Wp Sc y = weight tab Wp Sc k n := by
  have lk := k.isLt
  have ln := n.isLt
  unfold decodedRows decoded
  rw [shapeCast_self]
  have hy : (fun a => ⟨(![(y 0).val % 16, (y 1).val % 128] : Fin 2 → Nat) a, by fin_cases a <;> exact Nat.mod_lt _ (by decide)⟩ : S16x128.Idx)
      = ValueIdx.ix2 (⟨(y 0).val % 16, Nat.mod_lt _ (by decide)⟩ : Fin 16) (⟨(y 1).val % 128, Nat.mod_lt _ (by decide)⟩ : Fin 128) := idx2_eq (n0 := 16) (n1 := 128) _ _ _ rfl rfl
  rw [hy, piece_apply]
  unfold weight
  have hW : (Rect.unit (s := S2176x256) ![64 * ((y 0).val / 64 % 34) + 32 * ((y 0).val / 32 % 2), 128 * ((y 1).val / 128 % 4 / 2)] S32x128.size
      (inb_bytes ⟨(y 1).val / 128 % 4, Nat.mod_lt _ (by decide)⟩ ⟨(y 0).val / 64 % 34, Nat.mod_lt _ (by decide)⟩ ⟨(y 0).val / 32 % 2, Nat.mod_lt _ (by decide)⟩)).idx
        (ValueIdx.ix2 (⟨16 * ((y 0).val / 16 % 2) + (y 0).val % 16, by omega⟩ : Fin 32)
          (srcLane ⟨(y 1).val / 128 % 4, Nat.mod_lt _ (by decide)⟩ (⟨n.val % 128, Nat.mod_lt _ (by decide)⟩ : Fin 128)))
      = ValueIdx.ix2 k (⟨n.val / 2, by omega⟩ : Fin 256) := by
    refine idx2_eq _ _ _ ?_ ?_
    · show 64 * ((y 0).val / 64 % 34) + 32 * ((y 0).val / 32 % 2) + 1 * (16 * ((y 0).val / 16 % 2) + (y 0).val % 16) = k.val
      omega
    · show 128 * ((y 1).val / 128 % 4 / 2) + 1 * (n.val % 128 / 2 + (y 1).val / 128 % 4 % 2 * 64) = n.val / 2
      omega
  have hS : (Rect.unit (s := S34x512) ![(y 0).val / 64 % 34, 128 * ((y 1).val / 128 % 4)] S1x128.size
      (inb_scale ⟨(y 1).val / 128 % 4, Nat.mod_lt _ (by decide)⟩ ⟨(y 0).val / 64 % 34, Nat.mod_lt _ (by decide)⟩)).idx
        (ValueIdx.ix2 (0 : Fin 1) (⟨(y 1).val % 128, Nat.mod_lt _ (by decide)⟩ : Fin 128))
      = ValueIdx.ix2 (⟨k.val / 64, by omega⟩ : Fin 34) n := by
    refine idx2_eq _ _ _ ?_ ?_
    · show (y 0).val / 64 % 34 + 1 * 0 = k.val / 64
      omega
    · show 128 * ((y 1).val / 128 % 4) + 1 * ((y 1).val % 128) = n.val
      omega
  have hp : (y 1).val % 128 % 2 = n.val % 2 := by omega
  have hl : (⟨(y 1).val % 128, Nat.mod_lt _ (by decide)⟩ : Fin 128) = ⟨n.val % 128, by omega⟩ := Fin.ext (by show (y 1).val % 128 = n.val % 128; rw [h1])
  refine congrArg₂ FloatOps.mulf ?_ ?_
  · refine congrArg tab ?_
    show ValueIdx.ix2 (nibFin (Wp _) ((y 1).val % 128 % 2)) _ = _
    rw [hp, hl]
    exact congrArg (fun z => ValueIdx.ix2 (nibFin (Wp z) (n.val % 2)) (⟨n.val % 128, by omega⟩ : Fin 128)) hW
  · exact congrArg (fun z => FloatOps.truncf .bf16 bitsLt_bf16_f32 (Sc z)) hS

theorem right_weight (tab : S16x128.Idx → Elt F .bf16) (Wp : S2176x256.Idx → Elt F .i8) (Sc : S34x512.Idx → Elt F .f32) (lb : S16x512.Idx → Elt F .bf16)
    (y : S2304x512.Idx) (k : Fin 2176) (n : Fin 512) (h0 : (y 0).val = k.val) (h1 : (y 1).val = n.val) :
    rightFactor tab Wp Sc lb y = weight tab Wp Sc k n := by
  have lk := k.isLt
  unfold rightFactor filled
  rw [Rect.overlay_of_not_mem]
  · unfold onto
    rw [if_pos ((mem_pieces y).mpr (by omega))]
    exact decodedRows_apply tab Wp Sc y k n h0 h1
  · rw [mem_rect2]; intro hc; have := (hc 0).1
    exact absurd (show 2176 ≤ (y 0).val from this) (by omega)

theorem right_lora (tab : S16x128.Idx → Elt F .bf16) (Wp : S2176x256.Idx → Elt F .i8) (Sc : S34x512.Idx → Elt F .f32) (lb : S16x512.Idx → Elt F .bf16)
    (y : S2304x512.Idx) (j : Fin 16) (n : Fin 512) (h0 : (y 0).val = 2176 + j.val) (h1 : (y 1).val = n.val) :
    rightFactor tab Wp Sc lb y = lb (ValueIdx.ix2 j n) := by
  have e : y = loraRect.emb (ValueIdx.ix2 j n) := by
    funext a
    apply Fin.ext
    rw [Rect.emb_apply]
    match a with
    | ⟨0, _⟩ => show (y 0).val = 2176 + 1 * j.val; omega
    | ⟨1, _⟩ => show (y 1).val = 0 + 1 * n.val; omega
  rw [e]
  unfold rightFactor filled
  rw [Rect.overlay_emb, shapeCast_self]

theorem right_zero (tab : S16x128.Idx → Elt F .bf16) (Wp : S2176x256.Idx → Elt F .i8) (Sc : S34x512.Idx → Elt F .f32) (lb : S16x512.Idx → Elt F .bf16)
    (y : S2304x512.Idx) (h0 : 2192 ≤ (y 0).val) : rightFactor tab Wp Sc lb y = z16 := rightFactor_lowZero tab Wp Sc lb y h0

/-! ## The left factor -/

theorem left_main (x : S384x2176.Idx → Elt F .bf16) (la : S2176x16.Idx → Elt F .bf16) (y : S384x2304.Idx) (r : Fin 384) (k : Fin 2176)
    (h0 : (y 0).val = r.val) (h1 : (y 1).val = k.val) : leftFactor x la y = x (ValueIdx.ix2 r k) := by
  have lk := k.isLt
  unfold leftFactor leftOver
  rw [Rect.overlay_of_not_mem]
  · have e : y = (Rect.unit (s := S384x2304) ![0, 0] S384x2176.size inb_S384x2304_S384x2176_0_0).emb (ValueIdx.ix2 r k) := by
      funext a
      apply Fin.ext
      rw [Rect.emb_apply]
      match a with
      | ⟨0, _⟩ => show (y 0).val = 0 + 1 * r.val; omega
      | ⟨1, _⟩ => show (y 1).val = 0 + 1 * k.val; omega
    rw [e, Rect.overlay_emb]
    unfold mainPart
    rw [shapeCast_self, shapeCast_self]
  · rw [mem_rect2]; intro hc; have := (hc 1).1
    exact absurd (show 2176 ≤ (y 1).val from this) (by omega)

theorem left_side (x : S384x2176.Idx → Elt F .bf16) (la : S2176x16.Idx → Elt F .bf16) (y : S384x2304.Idx) (r : Fin 384) (k : Fin 128)
    (h0 : (y 0).val = r.val) (h1 : (y 1).val = 2176 + k.val) : leftFactor x la y = sidePart x la (ValueIdx.ix2 r k) := by
  unfold leftFactor leftOver
  have e : y = (Rect.unit (s := S384x2304) ![0, 2176] S384x128.size inb_S384x2304_S384x128_0_2176).emb (ValueIdx.ix2 r k) := by
    funext a
    apply Fin.ext
    rw [Rect.emb_apply]
    match a with
    | ⟨0, _⟩ => show (y 0).val = 0 + 1 * r.val; omega
    | ⟨1, _⟩ => show (y 1).val = 2176 + 1 * k.val; omega
  rw [e, Rect.overlay_emb]

end factors

/-! ## Over the extended reals -/

theorem z16_zero : (z16 : Elt Ideal .bf16) = (0 : EReal) := Ideal.ofBits_zero_bf16

/-- The scaling factor. -/
abbrev two : EReal := Ideal.ofBits .bf16 0x4000#16

/-- `h`, the first of the side product's two factors. -/
def hid (x : S384x2176.Idx → Elt Ideal .bf16) (la : S2176x16.Idx → Elt Ideal .bf16) (r : Fin 384) (j : Fin 16) : EReal :=
  ∑ k : Fin 2176, x (ValueIdx.ix2 r k) * la (ValueIdx.ix2 k j)

theorem dot_main : dot_S384x2304_S2304x512_S384x512_1_0_0_1_n_n = DotDims.plain 384 2304 512 := rfl
theorem dot_side : dot_S384x2176_S2176x16_S384x16_1_0_0_1_n_n = DotDims.plain 384 2176 16 := rfl

theorem side_low (x : S384x2176.Idx → Elt Ideal .bf16) (la : S2176x16.Idx → Elt Ideal .bf16) (r : Fin 384) (j : Fin 16) :
    sidePart (F := Ideal) x la (ValueIdx.ix2 r (⟨j.val, by omega⟩ : Fin 128)) = hid x la r j * two := by
  unfold sidePart
  rw [shapeCast_self, shapeCast_self]
  refine (concatenate_pair_apply_left (t := S384x128) (s₁ := S384x16) (s₂ := S384x112) 1 _ _ _ _ rfl (ValueIdx.ix2 r j) fun b => ?_).trans ?_
  · match b with
    | ⟨0, _⟩ => rfl
    | ⟨1, _⟩ => rfl
  show FloatOps.matmul (F := Ideal) (φ₁ := .bf16) (φ₂ := .bf16) (DotDims.plain 384 2176 16) none x la (constant S384x16 .f32 0x00000000#32) (ValueIdx.ix2 r j) * two = _
  rw [Ideal.matmul_plain_apply]
  have h0 : (constant (F := Ideal) S384x16 .f32 0x00000000#32 (ValueIdx.ix2 r j) : EReal) = 0 := Ideal.ofBits_zero_f32
  rw [h0, zero_add]
  rfl

/-- An element of the product: the row of `x` times the column of the weight, and the side product. -/
def elt (x : S384x2176.Idx → Elt Ideal .bf16) (la : S2176x16.Idx → Elt Ideal .bf16) (wcol : Fin 2176 → EReal) (bcol : Fin 16 → EReal) (r : Fin 384) : EReal :=
  (∑ k : Fin 2176, x (ValueIdx.ix2 r k) * wcol k) + ∑ j : Fin 16, (hid x la r j * two) * bcol j

theorem product_apply (x : S384x2176.Idx → Elt Ideal .bf16) (la : S2176x16.Idx → Elt Ideal .bf16) (tab : S16x128.Idx → Elt Ideal .bf16)
    (Wp : S2176x256.Idx → Elt Ideal .i8) (Sc : S34x512.Idx → Elt Ideal .f32) (lb : S16x512.Idx → Elt Ideal .bf16) (r : Fin 384) (n : Fin 512) :
    product (F := Ideal) (leftFactor x la) (rightFactor tab Wp Sc lb) (ValueIdx.ix2 r n)
      = elt x la (fun k => weight tab Wp Sc k n) (fun j => lb (ValueIdx.ix2 j n)) r := by
  unfold product
  rw [dot_main]
  show FloatOps.matmul (F := Ideal) (φ₁ := .bf16) (φ₂ := .bf16) (DotDims.plain 384 2304 512) none (leftFactor x la) (rightFactor tab Wp Sc lb) (constant S384x512 .f32 0x00000000#32) (ValueIdx.ix2 r n) = _
  rw [Ideal.matmul_plain_apply]
  have h0 : (constant (F := Ideal) S384x512 .f32 0x00000000#32 (ValueIdx.ix2 r n) : EReal) = 0 := Ideal.ofBits_zero_f32
  rw [h0, zero_add]
  have split : ∀ f : Fin 2304 → EReal, ∑ k, f k = (∑ k : Fin 2176, f ⟨k.val, by omega⟩)
      + ((∑ j : Fin 16, f ⟨2176 + j.val, by omega⟩) + ∑ j : Fin 112, f ⟨2192 + j.val, by omega⟩) := by
    intro f
    rw [show (∑ k, f k) = ∑ k : Fin (2176 + (16 + 112)), f (Fin.cast (by decide) k) from rfl, Fin.sum_univ_add, Fin.sum_univ_add]
    refine congrArg₂ (· + ·) rfl (congrArg₂ (· + ·) rfl (Finset.sum_congr rfl fun j _ => congrArg f (Fin.ext ?_)))
    show 2176 + (16 + j.val) = 2192 + j.val
    omega
  rw [split]
  unfold elt
  refine congrArg₂ (· + ·) (Finset.sum_congr rfl fun k _ => ?_) ?_
  · rw [left_main x la _ r k rfl rfl, right_weight tab Wp Sc lb _ k n rfl rfl]
  · have hz : (∑ j : Fin 112, leftFactor x la (ValueIdx.ix2 r (⟨2192 + j.val, by omega⟩ : Fin 2304)) * rightFactor tab Wp Sc lb (ValueIdx.ix2 (⟨2192 + j.val, by omega⟩ : Fin 2304) n) : EReal) = 0 := by
      refine Finset.sum_eq_zero fun j _ => ?_
      rw [right_zero tab Wp Sc lb _ (by show 2192 ≤ 2192 + j.val; omega), z16_zero]
      exact mul_zero _
    refine (congrArg (_ + ·) hz).trans ((add_zero _).trans (Finset.sum_congr rfl fun j _ => ?_))
    rw [right_lora tab Wp Sc lb _ j n rfl rfl, left_side x la _ r (⟨j.val, by omega⟩ : Fin 128) rfl rfl, side_low]

end Cert.Proof

end
-- ==== Proof.Blocks.lean ====
/-
  The windows' blocks at the arrays' coordinates, and the kernel's result array over the extended reals.
-/
module

public import proofs.«01_k».proof.Proof.Product
public import Idealize.ShloMosaic.Lib.Pipeline.ValueKit.Geometry

@[expose] public section

set_option maxRecDepth 65536

noncomputable section

namespace Cert.Proof

open Cert.Kernel Cert.Kernel.Gen
open Idealize.ShloMosaic Idealize.ShloMosaic.TcCoe Idealize.ShloMosaic.Tactic
open Idealize.ShloMosaic.Pipeline (Dat Cfg Window)
open scoped BigOperators

/-! ## Where the blocks lie -/

theorem index_1 : ∀ t : Fin grid0.N, win0_1.index t = ![0, t.val] := by decide +kernel
theorem index_2 : ∀ t : Fin grid0.N, win0_2.index t = ![0, t.val] := by decide +kernel
theorem index_4 : ∀ t : Fin grid0.N, win0_4.index t = ![0, t.val] := by decide +kernel
theorem index_6 : ∀ t : Fin grid0.N, win0_6.index t = ![0, t.val] := by decide +kernel
theorem index_0 : ∀ t : Fin grid0.N, win0_0.index t = ![0, 0] := by decide +kernel
theorem index_3 : ∀ t : Fin grid0.N, win0_3.index t = ![0, 0] := by decide +kernel
theorem index_5 : ∀ t : Fin grid0.N, win0_5.index t = ![0, 0] := by decide +kernel

theorem xsize_1 : ∀ t : Fin grid0.N, win0_1.xsize (grid0.coords t) = ![2176, min 256 (10560 - 256 * t.val)] := by decide +kernel
theorem xsize_2 : ∀ t : Fin grid0.N, win0_2.xsize (grid0.coords t) = ![34, min 512 (21120 - 512 * t.val)] := by decide +kernel
theorem xsize_4 : ∀ t : Fin grid0.N, win0_4.xsize (grid0.coords t) = ![16, min 512 (21120 - 512 * t.val)] := by decide +kernel
theorem xsize_6 : ∀ t : Fin grid0.N, win0_6.xsize (grid0.coords t) = ![384, min 512 (21120 - 512 * t.val)] := by decide +kernel

section blocks
variable {F : FTy → Type} [FloatOps F]
variable (m : (ℓ : Loc nD τ sig) → Buf (Elt F) ℓ) (c : Dev nD) (t : Fin cfg0.N)

theorem bw_apply (d : S2176x256.Idx → Elt F .i8) (k : Fin 2176) (n : Fin 256) (N : Fin 10560) (h : 256 * t.val + n.val = N.val) :
    bw m c t d (ValueIdx.ix2 k n) = (m ((c : Thread nD τ).loc main_arg1) : S2176x10560.Idx → Elt F .i8) (ValueIdx.ix2 k N) := by
  have hN := N.isLt
  have hn := n.isLt
  unfold bw
  unfold Window.fill
  rw [dif_pos ((win0_1.moved_iff (grid0.coords t) _).mpr fun a => by
    rw [xsize_1]
    match a with
    | ⟨0, _⟩ => exact k.isLt
    | ⟨1, _⟩ => show n.val < min 256 (10560 - 256 * t.val); omega)]
  unfold iblk
  rw [show V m c (Pipeline.arrRef spec0 1) = m ((c : Thread nD τ).loc main_arg1) from V_main_arg1 m c]
  blk_simp [index_1]
  refine congrArg (m ((c : Thread nD τ).loc main_arg1) : S2176x10560.Idx → Elt F .i8) (idx2_eq (n0 := 2176) (n1 := 10560) _ k N ?_ ?_)
  · blk_simp [index_1]
  · blk_simp [index_1]
    show t.val * 256 + n.val = N.val
    omega

theorem bs_apply (d : S34x512.Idx → Elt F .f32) (k : Fin 34) (n : Fin 512) (N : Fin 21120) (h : 512 * t.val + n.val = N.val) :
    bs m c t d (ValueIdx.ix2 k n) = (m ((c : Thread nD τ).loc main_arg2) : S34x21120.Idx → Elt F .f32) (ValueIdx.ix2 k N) := by
  have hN := N.isLt
  have hn := n.isLt
  unfold bs
  unfold Window.fill
  rw [dif_pos ((win0_2.moved_iff (grid0.coords t) _).mpr fun a => by
    rw [xsize_2]
    match a with
    | ⟨0, _⟩ => exact k.isLt
    | ⟨1, _⟩ => show n.val < min 512 (21120 - 512 * t.val); omega)]
  unfold iblk
  rw [show V m c (Pipeline.arrRef spec0 2) = m ((c : Thread nD τ).loc main_arg2) from V_main_arg2 m c]
  blk_simp [index_2]
  refine congrArg (m ((c : Thread nD τ).loc main_arg2) : S34x21120.Idx → Elt F .f32) (idx2_eq (n0 := 34) (n1 := 21120) _ k N ?_ ?_)
  · blk_simp [index_2]
  · blk_simp [index_2]
    show t.val * 512 + n.val = N.val
    omega

theorem bb_apply (d : S16x512.Idx → Elt F .bf16) (k : Fin 16) (n : Fin 512) (N : Fin 21120) (h : 512 * t.val + n.val = N.val) :
    bb m c t d (ValueIdx.ix2 k n) = (m ((c : Thread nD τ).loc main_arg4) : S16x21120.Idx → Elt F .bf16) (ValueIdx.ix2 k N) := by
  have hN := N.isLt
  have hn := n.isLt
  unfold bb
  unfold Window.fill
  rw [dif_pos ((win0_4.moved_iff (grid0.coords t) _).mpr fun a => by
    rw [xsize_4]
    match a with
    | ⟨0, _⟩ => exact k.isLt
    | ⟨1, _⟩ => show n.val < min 512 (21120 - 512 * t.val); omega)]
  unfold iblk
  rw [show V m c (Pipeline.arrRef spec0 4) = m ((c : Thread nD τ).loc main_arg4) from V_main_arg4 m c]
  blk_simp [index_4]
  refine congrArg (m ((c : Thread nD τ).loc main_arg4) : S16x21120.Idx → Elt F .bf16) (idx2_eq (n0 := 16) (n1 := 21120) _ k N ?_ ?_)
  · blk_simp [index_4]
  · blk_simp [index_4]
    show t.val * 512 + n.val = N.val
    omega

theorem bx_apply : bx m c t = (V m c main_v1 : S384x2176.Idx → Elt F .bf16) := by
  funext y
  unfold bx iblk
  blk_simp [index_0]
  refine congrArg (V m c main_v1 : S384x2176.Idx → Elt F .bf16) ?_
  funext a
  apply Fin.ext
  blk_simp [index_0]
  match a with
  | ⟨0, _⟩ => show 0 * 384 + (y 0).val = (y 0).val; omega
  | ⟨1, _⟩ => show 0 * 2176 + (y 1).val = (y 1).val; omega

theorem ba_apply : ba m c t = (m ((c : Thread nD τ).loc main_arg3) : S2176x16.Idx → Elt F .bf16) := by
  funext y
  unfold ba iblk
  rw [show V m c (Pipeline.arrRef spec0 3) = m ((c : Thread nD τ).loc main_arg3) from V_main_arg3 m c]
  blk_simp [index_3]
  refine congrArg (m ((c : Thread nD τ).loc main_arg3) : S2176x16.Idx → Elt F .bf16) ?_
  funext a
  apply Fin.ext
  blk_simp [index_3]
  match a with
  | ⟨0, _⟩ => show 0 * 2176 + (y 0).val = (y 0).val; omega
  | ⟨1, _⟩ => show 0 * 16 + (y 1).val = (y 1).val; omega

theorem bt_apply : bt m c t = (V m c main_v2 : S16x128.Idx → Elt F .bf16) := by
  funext y
  unfold bt iblk
  blk_simp [index_5]
  refine congrArg (V m c main_v2 : S16x128.Idx → Elt F .bf16) ?_
  funext a
  apply Fin.ext
  blk_simp [index_5]
  match a with
  | ⟨0, _⟩ => show 0 * 16 + (y 0).val = (y 0).val; omega
  | ⟨1, _⟩ => show 0 * 128 + (y 1).val = (y 1).val; omega

/-- The weight's element at row `k` and column `N` of the whole arrays. -/
def weightAt (tab : S16x128.Idx → Elt F .bf16) (Wp : S2176x10560.Idx → Elt F .i8) (Sc : S34x21120.Idx → Elt F .f32) (k : Fin 2176) (N : Fin 21120) : F .bf16 :=
  FloatOps.mulf (tab (ValueIdx.ix2 (nibFin (Wp (ValueIdx.ix2 k (⟨N.val / 2, by omega⟩ : Fin 10560))) (N.val % 2)) (⟨N.val % 128, by omega⟩ : Fin 128)))
    (FloatOps.truncf .bf16 bitsLt_bf16_f32 (Sc (ValueIdx.ix2 (⟨k.val / 64, by omega⟩ : Fin 34) N)))

theorem weight_at (d1 : S2176x256.Idx → Elt F .i8) (d2 : S34x512.Idx → Elt F .f32) (k : Fin 2176) (n : Fin 512) (N : Fin 21120)
    (h : 512 * t.val + n.val = N.val) :
    weight (bt m c t) (bw m c t d1) (bs m c t d2) k n
      = weightAt (V m c main_v2) (m ((c : Thread nD τ).loc main_arg1)) (m ((c : Thread nD τ).loc main_arg2)) k N := by
  have hN := N.isLt
  unfold weight weightAt
  rw [bs_apply m c t d2 _ n N h, bw_apply m c t d1 k _ (⟨N.val / 2, by omega⟩ : Fin 10560) (by show 256 * t.val + n.val / 2 = N.val / 2; omega), bt_apply]
  have h2 : n.val % 2 = N.val % 2 := by omega
  have h1 : (⟨n.val % 128, by omega⟩ : Fin 128) = ⟨N.val % 128, by omega⟩ := Fin.ext (by show n.val % 128 = N.val % 128; omega)
  rw [h2, h1]

end blocks

/-! ## Over the extended reals -/

variable (m : (ℓ : Loc nD τ sig) → Buf (Elt Ideal) ℓ) (c : Dev nD)

/-- The kernel's result at row `r` and column `N`. -/
def resultAt (r : Fin 384) (N : Fin 21120) : EReal :=
  elt (V m c main_v1) (m ((c : Thread nD τ).loc main_arg3))
    (fun k => weightAt (F := Ideal) (V m c main_v2) (m ((c : Thread nD τ).loc main_arg1)) (m ((c : Thread nD τ).loc main_arg2)) k N)
    (fun j => (m ((c : Thread nD τ).loc main_arg4) : S16x21120.Idx → EReal) (ValueIdx.ix2 j N)) r

theorem bo_apply (t : Fin cfg0.N) (d1 : S2176x256.Idx → Elt Ideal .i8) (d2 : S34x512.Idx → Elt Ideal .f32) (d4 : S16x512.Idx → Elt Ideal .bf16)
    (y : S384x512.Idx) (r : Fin 384) (n : Fin 512) (N : Fin 21120) (hr : (y 0).val = r.val) (hn : (y 1).val = n.val) (h : 512 * t.val + n.val = N.val) :
    bo (F := Ideal) m c t d1 d2 d4 y = resultAt m c r N := by
  rw [idx2_eq (n0 := 384) (n1 := 512) y r n hr hn]
  unfold bo
  rw [product_apply]
  unfold resultAt
  rw [bx_apply, ba_apply]
  refine congrArg₂ (fun f g => elt _ _ f g r) (funext fun k => ?_) (funext fun j => ?_)
  · exact weight_at m c t d1 d2 k n N h
  · exact bb_apply m c t d4 j n N h

/-- What the result's block keeps does not depend on what lay past the edges. -/
theorem hcol (t : Fin cfg0.N) (d1 : S2176x256.Idx → Elt Ideal .i8) (d2 : S34x512.Idx → Elt Ideal .f32) (d4 : S16x512.Idx → Elt Ideal .bf16) :
    win0_6.cut (grid0.coords t) (bo (F := Ideal) m c t d1 d2 d4)
      = win0_6.cut (grid0.coords t) (bo (F := Ideal) m c t (fun _ => (0#8 : BitVec 8)) (fun _ => Scalar.ofBits (F := Ideal) .f32 0#32) (fun _ => z16)) := by
  funext j
  have e := xsize_6 t
  have l0 : (j 0).val < 384 := lt_of_lt_of_eq (j 0).isLt (congrFun e 0)
  have l1 : (j 1).val < min 512 (21120 - 512 * t.val) := lt_of_lt_of_eq (j 1).isLt (congrFun e 1)
  show bo (F := Ideal) m c t d1 d2 d4 (win0_6.xinj (grid0.coords t) j) = bo (F := Ideal) m c t _ _ _ (win0_6.xinj (grid0.coords t) j)
  rw [bo_apply m c t d1 d2 d4 _ ⟨(j 0).val, l0⟩ ⟨(j 1).val, by omega⟩ ⟨512 * t.val + (j 1).val, by omega⟩ rfl rfl rfl,
    bo_apply m c t _ _ _ _ ⟨(j 0).val, l0⟩ ⟨(j 1).val, by omega⟩ ⟨512 * t.val + (j 1).val, by omega⟩ rfl rfl rfl]

/-- The result array after the run. -/
theorem final : (dats (F := Ideal) m 0 c).arrAt 6 cfg0.N = (fun i => resultAt m c (i 0) (i 1) : S384x21120.Idx → EReal) := by
  refine (dats (F := Ideal) m 0 c).arrAt_eq_of_covers 6 _ (by decide +kernel) fun t hf j => ?_
  have e := xsize_6 t
  have l0 : (j 0).val < 384 := lt_of_lt_of_eq (j 0).isLt (congrFun e 0)
  have l1 : (j 1).val < min 512 (21120 - 512 * t.val) := lt_of_lt_of_eq (j 1).isLt (congrFun e 1)
  show bo (F := Ideal) m c t _ _ _ (win0_6.xinj (grid0.coords t) j) = _
  rw [bo_apply m c t _ _ _ _ ⟨(j 0).val, l0⟩ ⟨(j 1).val, by omega⟩ ⟨512 * t.val + (j 1).val, by omega⟩ rfl rfl rfl]
  refine congrArg₂ (resultAt m c) (Fin.ext ?_) (Fin.ext ?_)
  · blk_simp [index_6]
  · blk_simp [index_6]
    show 512 * t.val + (j 1).val = t.val * 512 + (j 1).val
    omega

end Cert.Proof

end
-- ==== Proof.Host.lean ====
/-
  The host's lines around the kernel: what the kernel finds in its arrays, and its result handed on.
-/
module

public import proofs.«01_k».proof.Proof.Blocks

@[expose] public section

set_option maxRecDepth 65536

noncomputable section

namespace Cert.Proof

open Cert.Kernel Cert.Kernel.Gen
open Idealize.ShloMosaic Idealize.ShloMosaic.TcCoe Idealize.ShloMosaic.Tactic Idealize.ShloMosaic.StableHlo
open Idealize.ShloMosaic.Pipeline (Dat Cfg Window)
open scoped BigOperators

variable {F : FTy → Type} [FloatOps F]
variable (m : (ℓ : Loc nD τ sig) → Buf (Elt F) ℓ) (c : Dev nD)

/-- `x` as a matrix. -/
theorem V_v1 : (V m c main_v1 : S384x2176.Idx → Elt F .bf16)
    = shapeCast S384x2176 (m ((c : Thread nD τ).loc main_arg0) : S1x384x2176.Idx → Elt F .bf16) shapeCasts_S1x384x2176_S384x2176 := by
  unfold V V0
  simp only [List.flatten_cons, List.flatten_nil, List.append_nil]
  after_results_simp
  rfl

/-- The table's levels, each along a row. -/
theorem V_v2 : (V m c main_v2 : S16x128.Idx → Elt F .bf16)
    = truncf .bf16 (broadcastInDim S16x128 ![0] bcast_S16_S16x128_0 (fun i : S16.Idx => (FloatOps.ofBits .f32 (lit0 (S16.rowMajor i)) : F .f32))) bitsLt_bf16_f32 := by
  unfold V V0
  simp only [List.flatten_cons, List.flatten_nil, List.append_nil]
  after_results_simp
  rfl

theorem V_v2_apply (q : Fin 16) (l : Fin 128) : (V m c main_v2 : S16x128.Idx → Elt F .bf16) (ValueIdx.ix2 q l)
    = FloatOps.truncf .bf16 bitsLt_bf16_f32 (FloatOps.ofBits .f32 (lit0 q) : F .f32) := by
  rw [V_v2]
  refine congrArg (FloatOps.truncf .bf16 bitsLt_bf16_f32) ?_
  refine (broadcastInDim_apply _ bcast_S16_S16x128_0 (fun i : S16.Idx => (FloatOps.ofBits .f32 (lit0 (S16.rowMajor i)) : F .f32)) (ValueIdx.ix2 q l)
    (fun a => match a with | ⟨0, _⟩ => q) (fun a => match a with | ⟨0, _⟩ => rfl)).trans ?_
  refine congrArg (fun z => (FloatOps.ofBits .f32 (lit0 z) : F .f32)) (Fin.ext ?_)
  exact Shape.rowMajor_val_one _

theorem V_v1_apply (r : Fin 384) (k : Fin 2176) (i : S1x384x2176.Idx) (h1 : (i 1).val = r.val) (h2 : (i 2).val = k.val) :
    (V m c main_v1 : S384x2176.Idx → Elt F .bf16) (ValueIdx.ix2 r k) = (m ((c : Thread nD τ).loc main_arg0) : S1x384x2176.Idx → Elt F .bf16) i := by
  rw [V_v1]
  refine shapeCast_apply (s := S1x384x2176) (t := S384x2176) _ shapeCasts_S1x384x2176_S384x2176 (ValueIdx.ix2 r k) i ?_
  rw [Shape.rowMajor_val_three, Shape.rowMajor_val_two]
  have h0 : (i 0).val = 0 := by have : (i 0).val < 1 := (i 0).isLt; omega
  show ((i 0).val * 384 + (i 1).val) * 2176 + (i 2).val = r.val * 2176 + k.val
  rw [h0, h1, h2]; omega

/-- What the program returns is the result array with a leading axis of length one. -/
theorem tail_v4 (dats : (p : Fin 1) → (c : Dev nD) → Dat τ (Elt F) Unit ℕ (UR sig nD τ) ℕ (cfgs p) c) (G : S384x21120.Idx → Elt F .bf16)
    (hG : (dats 0 c).arrAt 6 cfg0.N = G) :
    (Pipeline.afterTail₀ cfgs dats 0 (V0 m) [hostOps1] c main_v4 : S1x384x21120.Idx → Elt F .bf16)
      = shapeCast S1x384x21120 G shapeCasts_S384x21120_S1x384x21120 := by
  unfold Pipeline.afterTail₀
  simp only [List.flatten_cons, List.flatten_nil, List.append_nil]
  after_results_simp
  rw [show Pipeline.withArrays (cfgs 0).spec c (V0 m c) (fun w => (dats 0 c).arrAt w (cfgs 0).N) (Proc.devRef .tc main_v3) = (dats 0 c).arrAt 6 cfg0.N from
    Pipeline.withArrays_arr spec0 (by decide) c (V0 m c) (fun w => (dats 0 c).arrAt w cfg0.N) 6, hG]
  rfl

end Cert.Proof

end
-- ==== Proof.Ref.lean ====
/-
  The reference's value over the extended reals, element by element.
-/
module

public import proofs.«01_k».proof.Proof.Host
public import proofs.«01_k».proof.Proof.Gen.ReferenceIdeal.Read

@[expose] public section

set_option maxRecDepth 65536

noncomputable section

namespace Cert.Proof

open Cert.ReferenceIdeal Cert.ReferenceIdeal.Gen Cert.ReferenceIdeal.Read
open Idealize.ShloMosaic Idealize.ShloMosaic.TcCoe
open scoped BigOperators

section codes
variable {F : FTy → Type} [FloatOps F]

/-! ## The codes -/

theorem low_bits : ∀ b : BitVec 8, IntOp.andi (b.setWidth 32) 15#32 = (nib b 0).setWidth 32 := by decide +kernel
theorem high_bits : ∀ b : BitVec 8, IntOp.shrsi .host (b.setWidth 32) 4#32 = (nib b 1).setWidth 32 := by decide +kernel

/-- The code at row `k` and column `N`: the byte's low four bits in an even column and its high four in an odd one. -/
theorem code_apply (x1 : S2176x10560.Idx → BitVec 8) (k : Fin 2176) (N : Fin 21120) :
    val_main_v8 (F := F) x1 (ValueIdx.ix2 k N) = (nib (x1 (ValueIdx.ix2 k (⟨N.val / 2, by omega⟩ : Fin 10560))) (N.val % 2)).setWidth 32 := by
  have lk := k.isLt
  have lN := N.isLt
  rw [val_main_v8_apply]
  have e0 : (idx_main_v8 (ValueIdx.ix2 k N) 0).val = k.val := by show (k.val * 21120 + N.val) / 21120 = k.val; omega
  have e1 : (idx_main_v8 (ValueIdx.ix2 k N) 1).val = N.val / 2 := by show (k.val * 21120 + N.val) / 2 % 10560 = N.val / 2; omega
  have e2 : (idx_main_v8 (ValueIdx.ix2 k N) 2).val = N.val % 2 := by show (k.val * 21120 + N.val) % 2 = N.val % 2; omega
  generalize idx_main_v8 (ValueIdx.ix2 k N) = j at e0 e1 e2
  unfold val_main_v7
  have hidx : ∀ i : S2176x10560x1.Idx, (i 0).val = k.val → (i 1).val = N.val / 2 → idx_main_v5 i = ValueIdx.ix2 k (⟨N.val / 2, by omega⟩ : Fin 10560) :=
    fun i h0 h1 => idx2_eq (n0 := 2176) (n1 := 10560) _ _ _ h0 h1
  rcases Nat.mod_two_eq_zero_or_one N.val with h | h
  · rw [h] at e2 ⊢
    refine (concatenate_pair_apply_left (t := S2176x10560x2) (s₁ := S2176x10560x1) (s₂ := S2176x10560x1) 2 _ _ _ j rfl
      (fun a => match a with | ⟨0, _⟩ => k | ⟨1, _⟩ => (⟨N.val / 2, by omega⟩ : Fin 10560) | ⟨2, _⟩ => (0 : Fin 1)) fun b => ?_).trans ?_
    · match b with
      | ⟨0, _⟩ => exact e0.symm
      | ⟨1, _⟩ => exact e1.symm
      | ⟨2, _⟩ => exact e2.symm
    rw [val_main_v5_apply, hidx _ rfl rfl, val_main_v2_apply, val_main_v0_apply, val_main_v1_apply, val_main_c_apply]
    exact low_bits _
  · rw [h] at e2 ⊢
    refine (concatenate_pair_apply_right (t := S2176x10560x2) (s₁ := S2176x10560x1) (s₂ := S2176x10560x1) 2 _ _ _ j rfl rfl
      (fun a => match a with | ⟨0, _⟩ => k | ⟨1, _⟩ => (⟨N.val / 2, by omega⟩ : Fin 10560) | ⟨2, _⟩ => (0 : Fin 1)) (fun b hb => ?_) ?_).trans ?_
    · match b with
      | ⟨0, _⟩ => exact e0.symm
      | ⟨1, _⟩ => exact e1.symm
      | ⟨2, _⟩ => exact absurd rfl hb
    · exact e2.symm
    rw [val_main_v6_apply]
    rw [show idx_main_v6 _ = ValueIdx.ix2 k (⟨N.val / 2, by omega⟩ : Fin 10560) from hidx _ rfl rfl, val_main_v4_apply, val_main_v0_apply, val_main_v3_apply, val_main_c_0_apply]
    exact high_bits _

/-! ## The levels -/

/-- The reference's choice of a level, four choices on one bit of the code each. -/
def choose (w : BitVec 32) : F .f32 :=
  let s : BitVec 32 → F .f32 → F .f32 → F .f32 := fun bit a b => Scalar.select (IntOp.cmpi .ne (IntOp.andi w bit) 0#32) a b
  let l : BitVec 32 → F .f32 := fun b => FloatOps.ofBits .f32 b
  s 8#32
    (s 4#32 (s 2#32 (s 1#32 (l 0x3F800000#32) (l 0x3F3913B3#32)) (s 1#32 (l 0x3F1007AB#32) (l 0x3EE1A4B8#32)))
      (s 2#32 (s 1#32 (l 0x3EAD033A#32) (l 0x3E7C04DD#32)) (s 1#32 (l 0x3E24CAE3#32) (l 0x3DA2FAFF#32))))
    (s 4#32 (s 2#32 (s 1#32 (l 0x00000000#32) (l 0xBDBA7871#32)) (s 1#32 (l 0xBE3D353F#32) (l 0xBE91A24D#32)))
      (s 2#32 (s 1#32 (l 0xBECA32A0#32) (l 0xBF066B30#32)) (s 1#32 (l 0xBF3239B1#32) (l 0xBF800000#32))))

theorem choose_eq (q : Fin 16) : choose (F := F) (BitVec.ofNat 32 q.val) = FloatOps.ofBits .f32 (Cert.Kernel.lit0 q) := by
  fin_cases q <;> rfl

theorem v39_apply (x1 : S2176x10560.Idx → BitVec 8) (i : S2176x21120.Idx) :
    val_main_v39 (F := F) x1 i = choose (val_main_v8 (F := F) x1 i) := by
  simp only [val_main_v39_apply, val_main_v34_apply, val_main_v33_apply, val_main_v28_apply, val_main_v27_apply, val_main_v26_apply, val_main_v25_apply,
    val_main_v20_apply, val_main_v19_apply, val_main_v18_apply, val_main_v17_apply, val_main_v16_apply, val_main_v15_apply, val_main_v14_apply,
    val_main_v13_apply, val_main_v38_apply, val_main_v36_apply, val_main_v32_apply, val_main_v30_apply, val_main_v24_apply, val_main_v22_apply,
    val_main_v12_apply, val_main_v10_apply, val_main_v37_apply, val_main_v35_apply, val_main_v31_apply, val_main_v29_apply, val_main_v23_apply,
    val_main_v21_apply, val_main_v11_apply, val_main_v9_apply]
  simp only [val_main_call0_v0_apply, val_main_call0_v1_apply, val_main_call1_v0_apply, val_main_call1_v1_apply, val_main_call2_v0_apply,
    val_main_call2_v1_apply, val_main_call3_v0_apply, val_main_call3_v1_apply, val_main_call4_v0_apply, val_main_call4_v1_apply,
    val_main_call5_v0_apply, val_main_call5_v1_apply, val_main_call6_v0_apply, val_main_call6_v1_apply, val_main_call7_v0_apply, val_main_call7_v1_apply]
  rfl

/-- The reference's level at row `k` and column `N`. -/
theorem level_apply (x1 : S2176x10560.Idx → BitVec 8) (k : Fin 2176) (N : Fin 21120) :
    val_main_v39 (F := F) x1 (ValueIdx.ix2 k N)
      = FloatOps.ofBits .f32 (Cert.Kernel.lit0 (nibFin (x1 (ValueIdx.ix2 k (⟨N.val / 2, by omega⟩ : Fin 10560))) (N.val % 2))) := by
  rw [v39_apply, code_apply, ← choose_eq]
  refine congrArg choose (BitVec.eq_of_toNat_eq ?_)
  have h := nib_lt (x1 (ValueIdx.ix2 k (⟨N.val / 2, by omega⟩ : Fin 10560))) (N.val % 2)
  rw [BitVec.toNat_setWidth, BitVec.toNat_ofNat]
  rfl

/-- The reference's weight there. -/
theorem weight_ref (x1 : S2176x10560.Idx → BitVec 8) (x2 : S34x21120.Idx → Elt F .f32) (k : Fin 2176) (N : Fin 21120) :
    val_main_v46 (F := F) x1 x2 (ValueIdx.ix2 k N)
      = FloatOps.mulf (FloatOps.truncf .bf16 bitsLt_bf16_f32
          (FloatOps.ofBits .f32 (Cert.Kernel.lit0 (nibFin (x1 (ValueIdx.ix2 k (⟨N.val / 2, by omega⟩ : Fin 10560))) (N.val % 2))) : F .f32))
        (FloatOps.truncf .bf16 bitsLt_bf16_f32 (x2 (ValueIdx.ix2 (⟨k.val / 64, by omega⟩ : Fin 34) N))) := by
  have lk := k.isLt
  have lN := N.isLt
  rw [val_main_v46_apply, val_main_v45_apply]
  have e0 : (idx_main_v46 (ValueIdx.ix2 k N) 0).val = k.val / 64 := by show (k.val * 21120 + N.val) / 1351680 = k.val / 64; omega
  have e1 : (idx_main_v46 (ValueIdx.ix2 k N) 1).val = k.val % 64 := by show (k.val * 21120 + N.val) / 21120 % 64 = k.val % 64; omega
  have e2 : (idx_main_v46 (ValueIdx.ix2 k N) 2).val = N.val := by show (k.val * 21120 + N.val) % 21120 = N.val; omega
  generalize idx_main_v46 (ValueIdx.ix2 k N) = j at e0 e1 e2
  refine congrArg₂ FloatOps.mulf ?_ ?_
  · rw [val_main_v42_apply, val_main_v41_apply, ← level_apply]
    refine congrArg (fun z => FloatOps.truncf .bf16 bitsLt_bf16_f32 (val_main_v39 (F := F) x1 z)) (idx2_eq (n0 := 2176) (n1 := 21120) _ _ _ ?_ ?_)
    · show (((j 0).val * 64 + (j 1).val) * 21120 + (j 2).val) / 21120 = k.val
      rw [e0, e1, e2]; omega
    · show (((j 0).val * 64 + (j 1).val) * 21120 + (j 2).val) % 21120 = N.val
      rw [e0, e1, e2]; omega
  · rw [val_main_v44_apply, val_main_v43_apply, val_main_v40_apply]
    exact congrArg (fun z => FloatOps.truncf .bf16 bitsLt_bf16_f32 (x2 z)) (idx2_eq (n0 := 34) (n1 := 21120) _ _ _ e0 e2)

end codes

/-! ## The value over the extended reals -/

theorem two_eq : two = ((2 : ℝ) : EReal) := by
  simp [two, Ideal.ofBits, Ideal.ieee, -EReal.coe_mul]; norm_num
theorem two32_eq : Ideal.ofBits .f32 0x40000000#32 = ((2 : ℝ) : EReal) := by
  simp [Ideal.ofBits, Ideal.ieee, -EReal.coe_mul]; norm_num

/-- The factor two over a sum of extended reals. -/
theorem two_mul_sum {n : Nat} (f : Fin n → EReal) : ((2 : ℝ) : EReal) * ∑ j, f j = ∑ j, ((2 : ℝ) : EReal) * f j :=
  map_sum (M := EReal) (N := EReal) (⟨⟨fun x => ((2 : ℝ) : EReal) * x, mul_zero _⟩, fun y z =>
    EReal.left_distrib_of_nonneg_of_ne_top (EReal.coe_nonneg.mpr (by norm_num)) (EReal.coe_ne_top _) y z⟩ : EReal →+ EReal) f Finset.univ

/-- The reference's result at row `r` and column `N`. -/
theorem ref_apply (x0 : S1x384x2176.Idx → EReal) (x1 : S2176x10560.Idx → BitVec 8) (x2 : S34x21120.Idx → EReal) (x3 : S2176x16.Idx → EReal)
    (x4 : S16x21120.Idx → EReal) (i : S1x384x21120.Idx) (r : Fin 384) (N : Fin 21120) (h1 : (i 1).val = r.val) (h2 : (i 2).val = N.val)
    (x : Cert.Kernel.S384x2176.Idx → EReal) (hx : ∀ (k : Fin 2176) (q : S1x384x2176.Idx), (q 1).val = r.val → (q 2).val = k.val → x (ValueIdx.ix2 r k) = x0 q) :
    val_main_v54 (F := Ideal) x0 x1 x2 x3 x4 i
      = elt x x3 (fun k => val_main_v46 (F := Ideal) x1 x2 (ValueIdx.ix2 k N)) (fun j => x4 (ValueIdx.ix2 j N)) r := by
  rw [val_main_v54_apply, val_main_v53_apply, val_main_v52_apply, val_main_v51_apply, val_main_cst_24_apply, val_main_v47_apply, val_main_v50_apply]
  show (_ + Ideal.ofBits .f32 0x40000000#32 * _ : EReal) = _
  rw [two32_eq, two_mul_sum]
  unfold elt
  rw [two_eq]
  refine congrArg₂ (· + ·) (Finset.sum_congr rfl fun k _ => ?_) (Finset.sum_congr rfl fun j _ => ?_)
  · rw [hx k (lidx_main_v47 i k) h1 rfl, idx2_eq (n0 := 2176) (n1 := 21120) (ridx_main_v47 i k) k N rfl h2]
  · rw [val_main_v49_apply, idx2_eq (n0 := 16) (n1 := 21120) (ridx_main_v50 i j) j N rfl h2, mul_comm (hid x x3 r j), mul_assoc]
    refine congrArg (fun z : EReal => ((2 : ℝ) : EReal) * (z * x4 (ValueIdx.ix2 j N))) ?_
    refine (val_main_v48_apply x0 x3 (lidx_main_v50 i j)).trans ?_
    unfold hid
    refine Finset.sum_congr rfl fun k _ => ?_
    rw [hx k (lidx_main_v48 (lidx_main_v50 i j) k) h1 rfl, idx2_eq (n0 := 2176) (n1 := 16) (ridx_main_v48 (lidx_main_v50 i j) k) k j rfl rfl]

end Cert.Proof

end
-- ==== Proof.Equal.lean ====
/-
  Kernel and reference at the extended reals: the kernel's run, its result as a formula of the arguments, and the reference's result as
  the same formula.
-/
module

public import proofs.«01_k».proof.Proof.Launch
public import proofs.«01_k».proof.Proof.Blocks
public import proofs.«01_k».proof.Proof.Host
public import proofs.«01_k».proof.Proof.Ref
public import proofs.«01_k».proof.Proof.Gen.ReferenceIdeal.Run
public import Idealize.ShloMosaic.Lib.Quiescent

@[expose] public section

set_option maxRecDepth 16384

noncomputable section

namespace Cert.Proof

open Idealize.ShloMosaic Idealize.ShloMosaic.Pipeline Idealize.SL.Sem Cert.Kernel Cert.Kernel.Gen

variable (m : (ℓ : Loc nD τ sig) → Buf (Elt Ideal) ℓ)

/-- The kernel's result over the extended reals, with its leading axis of length one. -/
def answer (c : Dev nD) : S1x384x21120.Idx → EReal :=
  shapeCast S1x384x21120 (fun i : S384x21120.Idx => resultAt m c (i 0) (i 1)) shapeCasts_S384x21120_S1x384x21120

theorem answer_apply (c : Dev nD) (i : S1x384x21120.Idx) (r : Fin 384) (N : Fin 21120) (h1 : (i 1).val = r.val) (h2 : (i 2).val = N.val) :
    answer m c i = resultAt m c r N := by
  unfold answer
  refine (shapeCast_apply (s := S384x21120) (t := S1x384x21120) _ shapeCasts_S384x21120_S1x384x21120 i (ValueIdx.ix2 r N) ?_).trans rfl
  rw [Shape.rowMajor_val_three, Shape.rowMajor_val_two]
  have h0 : (i 0).val = 0 := by have : (i 0).val < 1 := (i 0).isLt; omega
  show r.val * 21120 + N.val = ((i 0).val * 384 + (i 1).val) * 21120 + (i 2).val
  rw [h0, h1, h2]; omega

/-- The kernel runs, its result is `answer`, and its arguments end unchanged. -/
theorem run_answer (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v4 (Pipeline.mem_restRefs_of main_v4 (by decide) (by decide))).trans
        (tail_v4 m c (dats m) (fun i => resultAt m c (i 0) (i 1)) (final m c)),
      ((h c).2 main_arg0 (Pipeline.mem_restRefs_of main_arg0 (by decide) (by decide))).trans (W_main_arg0 m (dats m) c),
      ((h c).1 1).trans (((dats m 0 c).arrAt_in 1 rfl _).trans (V_main_arg1 m c)),
      ((h c).1 2).trans (((dats m 0 c).arrAt_in 2 rfl _).trans (V_main_arg2 m c)),
      ((h c).1 3).trans (((dats m 0 c).arrAt_in 3 rfl _).trans (V_main_arg3 m c)),
      ((h c).1 4).trans (((dats m 0 c).arrAt_in 4 rfl _).trans (V_main_arg4 m c))⟩) (run_exact m ρ (fun c => hcol m c))

/-- The reference's formula of the same arguments is the kernel's result. -/
theorem ref_answer (c : Dev nD) (x0 : S1x384x2176.Idx → EReal) (x1 : S2176x10560.Idx → BitVec 8) (x2 : S34x21120.Idx → EReal)
    (x3 : S2176x16.Idx → EReal) (x4 : S16x21120.Idx → EReal)
    (h0 : x0 = m ((c.tc : Thread nD τ).loc main_arg0)) (h1 : x1 = m ((c.tc : Thread nD τ).loc main_arg1))
    (h2 : x2 = m ((c.tc : Thread nD τ).loc main_arg2)) (h3 : x3 = m ((c.tc : Thread nD τ).loc main_arg3))
    (h4 : x4 = m ((c.tc : Thread nD τ).loc main_arg4)) :
    Cert.ReferenceIdeal.Read.val_main_v54 (F := Ideal) x0 x1 x2 x3 x4 = answer m c := by
  subst h0 h1 h2 h3 h4
  funext i
  rw [answer_apply m c i (i 1) (i 2) rfl rfl]
  refine (ref_apply _ _ _ _ _ i (i 1) (i 2) rfl rfl (V m c main_v1) (fun k q e1 e2 => V_v1_apply m c (i 1) k q e1 e2)).trans ?_
  unfold resultAt
  refine congrArg (fun w => elt (V m c main_v1) (m ((c.tc : Thread nD τ).loc main_arg3)) w
    (fun j => (m ((c.tc : Thread nD τ).loc main_arg4) : S16x21120.Idx → EReal) (ValueIdx.ix2 j (i 2))) (i 1)) (funext fun k => ?_)
  refine (weight_ref (F := Ideal) _ _ k (i 2)).trans ?_
  unfold weightAt
  rw [V_v2_apply]

end Cert.Proof

end
-- ==== Proof.lean ====
/- The certificate's claims, put together from the modules beside this one: the kernel and its idealization run and keep their arguments
   (Launch, Same), the reference runs and keeps its own, the idealization rewrites nothing, and over the extended reals the kernel's result
   is the reference's (Equal). -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.ReferenceIdeal.Read
public import proofs.«01_k».proof.Proof.Launch
public import proofs.«01_k».proof.Proof.Same
public import proofs.«01_k».proof.Proof.Equal
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel := fun m g _ => run_frame m g

theorem frame_ideal : Cert.quiescent_KernelIdeal := fun m g _ => by
  have h := run_frame (F := Ideal) m g
  rw [← defs_same, ← main_same] at h
  exact h

theorem frame_reference : Cert.quiescent_ReferenceIdeal := fun m g _ =>
  (θ_run (Cert.ReferenceIdeal.defs (F := Ideal)) _ _).mono
    (fun r h => ⟨fun c => (h c).2, sem_eq_zero_of_no_sems (by decide) r.2⟩) (Cert.ReferenceIdeal.Value.run (F := Ideal) m g)

theorem equal : Cert.algebraic_KernelIdeal_ReferenceIdeal := fun m g m' g' _ hargs =>
  ⟨fun c => answer m c, by
    have h := run_answer m g
    rw [← defs_same, ← main_same] at h
    exact h,
   (θ_run (Cert.ReferenceIdeal.defs (F := Ideal)) _ _).mono
    (fun r h c => ⟨((h c).1.trans (Cert.ReferenceIdeal.Read.val_main_v54_eq m' c)).trans
      (ref_answer m c _ _ _ _ _ (hargs c).1 (hargs c).2.1 (hargs c).2.2.1 (hargs c).2.2.2.1 (hargs c).2.2.2.2), (h c).2⟩)
    (Cert.ReferenceIdeal.Value.run (F := Ideal) m' g')⟩

theorem claim : Cert.Claim :=
  ⟨Cert.Kernel.Gen.facts, Cert.KernelIdeal.Gen.facts, Cert.ReferenceIdeal.Gen.facts,
    frame_kernel, frame_ideal, frame_reference, trivial, equal⟩

end Cert.Proof

end
